-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S2 : Shape := ⟨1, ![2]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2 : S_.BroadcastsInDim S2 (![] : Fin 0 → Fin S2.rank)
  reducesTo_S2_S_d0 : S2.ReducesTo [0] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S2 .f32) (main_arg2 : FVec F S2 .f32) (main_arg3 : FVec F S2048 .f32) (main_arg4 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2 .f32 := Host.absf main_arg1
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : FVec F S2048 .f32 := Host.absf main_arg3
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v3 main_v7
  let main_v13 : IVec S_ 1 := andi main_v12 main_v11
  main_v13
-- ==== Kernel.lean ====
abbrev S16384x2048 : Shape := ⟨2, ![16384, 2048]⟩
abbrev S2 : Shape := ⟨1, ![2]⟩
abbrev S2048 : Shape := ⟨1, ![2048]⟩
abbrev S_ : Shape := ⟨0, ![]⟩
abbrev S1 : Shape := ⟨1, ![1]⟩
abbrev S3 : Shape := ⟨1, ![3]⟩
abbrev S8x1x256 : Shape := ⟨3, ![8, 1, 256]⟩
abbrev S1024x2048 : Shape := ⟨2, ![1024, 2048]⟩
abbrev S8x256x256 : Shape := ⟨3, ![8, 256, 256]⟩
abbrev S4x1024x2048 : Shape := ⟨3, ![4, 1024, 2048]⟩
abbrev S1024x256 : Shape := ⟨2, ![1024, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x1024x2048 : Shape := ⟨3, ![1, 1024, 2048]⟩

abbrev nBuf : Space → Nat
  | .hbm => 46
  | .vmem => 12
  | .smem => 1
  | _ => 0

abbrev bufTy : (tb : Table) → Fin (tcTables nBuf tb) → BufTy
  | .hbm, ⟨0, _⟩ => ⟨S16384x2048, .f32⟩
  | .hbm, ⟨1, _⟩ => ⟨S2, .f32⟩
  | .hbm, ⟨2, _⟩ => ⟨S2, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S2, .f32⟩
  | .hbm, ⟨24, _⟩ => ⟨S2, .f32⟩
  | .hbm, ⟨25, _⟩ => ⟨S2, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S2, .f32⟩
  | .hbm, ⟨30, _⟩ => ⟨S2, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S3, .f32⟩
  | .hbm, ⟨43, _⟩ => ⟨S8x1x256, .f32⟩
  | .hbm, ⟨44, _⟩ => ⟨S8x1x256, .f32⟩
  | .hbm, ⟨45, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S8x1x256, .f32⟩
  | .local _ .vmem, ⟨3, _⟩ => ⟨S8x1x256, .f32⟩
  | .local _ .vmem, ⟨4, _⟩ => ⟨S1024x2048, .f32⟩
  | .local _ .vmem, ⟨5, _⟩ => ⟨S1024x2048, .f32⟩
  | .local _ .vmem, ⟨6, _⟩ => ⟨S8x256x256, .f32⟩
  | .local _ .vmem, ⟨7, _⟩ => ⟨S8x1x256, .f32⟩
  | .local _ .vmem, ⟨8, _⟩ => ⟨S8x256x256, .f32⟩
  | .local _ .vmem, ⟨9, _⟩ => ⟨S8x256x256, .bf16⟩
  | .local _ .vmem, ⟨10, _⟩ => ⟨S8x1x256, .f32⟩
  | .local _ .vmem, ⟨11, _⟩ => ⟨S4x1024x2048, .bf16⟩
  | .local _ .smem, ⟨0, _⟩ => ⟨S3, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_cond8 (i : grid0.Coords) : BitVec 1 :=
  let arg0 : BitVec 32 := BitVec.ofNat 32 (i 0).val
  let c16_i32_7 : BitVec 32 := 16#32
  let v21 : BitVec 1 := Scalar.cmpi .eq arg0 c16_i32_7
  let c21_i32 : BitVec 32 := 21#32
  let v22 : BitVec 1 := Scalar.cmpi .sge arg0 c21_i32
  let v23 : BitVec 1 := Scalar.ori v21 v22
  let v24 : BitVec 32 := Scalar.extui v23
  let c0_i32_8 : BitVec 32 := 0#32
  let v25 : BitVec 1 := Scalar.cmpi .ne v24 c0_i32_8
  v25

def k0_cond9 (i : grid0.Coords) : BitVec 1 :=
  let arg0 : BitVec 32 := BitVec.ofNat 32 (i 0).val
  let c17_i32 : BitVec 32 := 17#32
  let v26 : BitVec 1 := Scalar.cmpi .eq arg0 c17_i32
  let v27 : BitVec 32 := Scalar.extui v26
  let c0_i32_9 : BitVec 32 := 0#32
  let v28 : BitVec 1 := Scalar.cmpi .ne v27 c0_i32_9
  v28

def k0_cond10 (i : grid0.Coords) : BitVec 1 :=
  let arg0 : BitVec 32 := BitVec.ofNat 32 (i 0).val
  let c18_i32 : BitVec 32 := 18#32
  let v29 : BitVec 1 := Scalar.cmpi .eq arg0 c18_i32
  let v30 : BitVec 32 := Scalar.extui v29
  let c0_i32_10 : BitVec 32 := 0#32
  let v31 : BitVec 1 := Scalar.cmpi .ne v30 c0_i32_10
  v31

def k0_cond11 (i : grid0.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_11 : BitVec 32 := 0#32
  let v34 : BitVec 1 := Scalar.cmpi .ne v33 c0_i32_11
  v34

def k0_cond12 (i : grid0.Coords) : BitVec 1 :=
  let arg0 : BitVec 32 := BitVec.ofNat 32 (i 0).val
  let c20_i32 : BitVec 32 := 20#32
  let v35 : BitVec 1 := Scalar.cmpi .eq arg0 c20_i32
  let v36 : BitVec 32 := Scalar.extui v35
  let c0_i32_12 : BitVec 32 := 0#32
  let v37 : BitVec 1 := Scalar.cmpi .ne v36 c0_i32_12
  v37

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c16_i32 : BitVec 32 := 16#32
  let v0 : BitVec 1 := Scalar.cmpi .slt arg0 c16_i32
  let c21_i32 : BitVec 32 := 21#32
  let v1 : BitVec 1 := Scalar.cmpi .slt arg0 c21_i32
  let c16_i32_0 : BitVec 32 := 16#32
  let v2 : BitVec 32 := Scalar.subi arg0 c16_i32_0
  let c5_i32 : BitVec 32 := 5#32
  let v3 : BitVec 32 := Scalar.subi v2 c5_i32
  let c15_i32 : BitVec 32 := 15#32
  let v4 : BitVec 32 := Scalar.select v1 c15_i32 v3
  let v5 : BitVec 32 := Scalar.select v0 arg0 v4
  let c0_i32 : BitVec 32 := 0#32
  let c0_i32_1 : BitVec 32 := 0#32
  ![v5.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c16_i32 : BitVec 32 := 16#32
  let v0 : BitVec 1 := Scalar.cmpi .slt arg0 c16_i32
  let c21_i32 : BitVec 32 := 21#32
  let v1 : BitVec 1 := Scalar.cmpi .slt arg0 c21_i32
  let c31_i32 : BitVec 32 := 31#32
  let v2 : BitVec 32 := Scalar.subi c31_i32 arg0
  let c16_i32_0 : BitVec 32 := 16#32
  let v3 : BitVec 32 := Scalar.subi arg0 c16_i32_0
  let c5_i32 : BitVec 32 := 5#32
  let v4 : BitVec 32 := Scalar.subi v3 c5_i32
  let v5 : BitVec 32 := Scalar.select v1 v2 v4
  let c15_i32 : BitVec 32 := 15#32
  let v6 : BitVec 32 := Scalar.select v0 c15_i32 v5
  let c0_i32 : BitVec 32 := 0#32
  let c0_i32_1 : BitVec 32 := 0#32
  ![v6.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x2048 : Shape := ⟨2, ![16384, 2048]⟩
abbrev S2 : Shape := ⟨1, ![2]⟩
abbrev S2048 : Shape := ⟨1, ![2048]⟩
abbrev S2048x16384 : Shape := ⟨2, ![2048, 16384]⟩
abbrev S128x16x16384 : Shape := ⟨3, ![128, 16, 16384]⟩
abbrev S_ : Shape := ⟨0, ![]⟩
abbrev S128x16 : Shape := ⟨2, ![128, 16]⟩
abbrev S128x16x1 : Shape := ⟨3, ![128, 16, 1]⟩
abbrev S128x16x16 : Shape := ⟨3, ![128, 16, 16]⟩
abbrev S1 : Shape := ⟨1, ![1]⟩
abbrev S16x16 : Shape := ⟨2, ![16, 16]⟩
abbrev S1x16x16 : Shape := ⟨3, ![1, 16, 16]⟩
abbrev S128 : Shape := ⟨1, ![128]⟩
abbrev S128x1x1 : Shape := ⟨3, ![128, 1, 1]⟩
abbrev S16384x128x16 : Shape := ⟨3, ![16384, 128, 16]⟩
abbrev S1x128x16 : Shape := ⟨3, ![1, 128, 16]⟩
abbrev S128x16384x16 : Shape := ⟨3, ![128, 16384, 16]⟩
abbrev S1x2048 : Shape := ⟨2, ![1, 2048]⟩

abbrev nBuf : Space → Nat
  | .hbm => 158
  | .vmem => 0
  | .smem => 0
  | _ => 0

abbrev hbmTy0_0 (i : Nat) : BufTy := match i % 128 with
  | 0 => ⟨S16384x2048, .f32⟩
  | 1 => ⟨S2, .f32⟩
  | 2 => ⟨S2, .f32⟩
  | 3 => ⟨S2048, .f32⟩
  | 4 => ⟨S2048, .f32⟩
  | 5 => ⟨S2048x16384, .f32⟩
  | 6 => ⟨S128x16x16384, .f32⟩
  | 7 => ⟨S_, .f32⟩
  | 8 => ⟨S128x16, .f32⟩
  | 9 => ⟨S128x16x1, .f32⟩
  | 10 => ⟨S_, .f32⟩
  | 11 => ⟨S128x16x1, .f32⟩
  | 12 => ⟨S128x16x1, .f32⟩
  | 13 => ⟨S128x16x16384, .f32⟩
  | 14 => ⟨S128x16x16384, .f32⟩
  | 15 => ⟨S128x16x16, .f32⟩
  | 16 => ⟨S_, .f32⟩
  | 17 => ⟨S128x16x16, .f32⟩
  | 18 => ⟨S128x16x16, .f32⟩
  | 19 => ⟨S_, .f32⟩
  | 20 => ⟨S_, .f32⟩
  | 21 => ⟨S_, .f32⟩
  | 22 => ⟨S_, .f32⟩
  | 23 => ⟨S1, .f32⟩
  | 24 => ⟨S2, .f32⟩
  | 25 => ⟨S2, .f32⟩
  | 26 => ⟨S2, .f32⟩
  | 27 => ⟨S_, .f32⟩
  | 28 => ⟨S_, .f32⟩
  | 29 => ⟨S1, .f32⟩
  | 30 => ⟨S2, .f32⟩
  | 31 => ⟨S2, .f32⟩
  | 32 => ⟨S_, .f32⟩
  | 33 => ⟨S_, .f32⟩
  | 34 => ⟨S_, .f32⟩
  | 35 => ⟨S_, .f32⟩
  | 36 => ⟨S1, .f32⟩
  | 37 => ⟨S2, .f32⟩
  | 38 => ⟨S2, .f32⟩
  | 39 => ⟨S2, .f32⟩
  | 40 => ⟨S_, .f32⟩
  | 41 => ⟨S_, .f32⟩
  | 42 => ⟨S1, .f32⟩
  | 43 => ⟨S2, .f32⟩
  | 44 => ⟨S2, .f32⟩
  | 45 => ⟨S16x16, .i32⟩
  | 46 => ⟨S16x16, .i32⟩
  | 47 => ⟨S_, .i32⟩
  | 48 => ⟨S16x16, .i32⟩
  | 49 => ⟨S16x16, .i32⟩
  | 50 => ⟨S16x16, .i1⟩
  | 51 => ⟨S16x16, .f32⟩
  | 52 => ⟨S1, .f32⟩
  | 53 => ⟨S_, .f32⟩
  | 54 => ⟨S128x16x16, .f32⟩
  | 55 => ⟨S128x16x16, .f32⟩
  | 56 => ⟨S_, .f32⟩
  | 57 => ⟨S16x16, .f32⟩
  | 58 => ⟨S16x16, .f32⟩
  | 59 => ⟨S1x16x16, .f32⟩
  | 60 => ⟨S128x16x16, .f32⟩
  | 61 => ⟨S128x16x16, .f32⟩
  | 62 => ⟨S16x16, .i32⟩
  | 63 => ⟨S16x16, .i32⟩
  | 64 => ⟨S_, .i32⟩
  | 65 => ⟨S16x16, .i32⟩
  | 66 => ⟨S16x16, .i32⟩
  | 67 => ⟨S16x16, .i1⟩
  | 68 => ⟨S_, .f32⟩
  | 69 => ⟨S128x16x16, .f32⟩
  | 70 => ⟨S128x16x16, .i1⟩
  | 71 => ⟨S128x16x16, .f32⟩
  | 72 => ⟨S_, .f32⟩
  | 73 => ⟨S128, .f32⟩
  | 74 => ⟨S128x1x1, .f32⟩
  | 75 => ⟨S_, .f32⟩
  | 76 => ⟨S128x1x1, .f32⟩
  | 77 => ⟨S128x1x1, .f32⟩
  | 78 => ⟨S128x16x16, .f32⟩
  | 79 => ⟨S128x16x16, .f32⟩
  | 80 => ⟨S128x16x16, .f32⟩
  | 81 => ⟨S128x16x16, .f32⟩
  | 82 => ⟨S128x16x16, .f32⟩
  | 83 => ⟨S_, .f32⟩
  | 84 => ⟨S128x16x16, .f32⟩
  | 85 => ⟨S128x16x16, .f32⟩
  | 86 => ⟨S128x16x16, .f32⟩
  | 87 => ⟨S_, .f32⟩
  | 88 => ⟨S128x16x16, .f32⟩
  | 89 => ⟨S128x16x16, .f32⟩
  | 90 => ⟨S128x16x16, .f32⟩
  | 91 => ⟨S128x16x16, .f32⟩
  | 92 => ⟨S128x16x16, .f32⟩
  | 93 => ⟨S_, .f32⟩
  | 94 => ⟨S128x16x16, .f32⟩
  | 95 => ⟨S128x16x16, .f32⟩
  | 96 => ⟨S128x16x16, .f32⟩
  | 97 => ⟨S_, .f32⟩
  | 98 => ⟨S128x16x16, .f32⟩
  | 99 => ⟨S128x16x16, .f32⟩
  | 100 => ⟨S128x16x16, .f32⟩
  | 101 => ⟨S128x16x16, .f32⟩
  | 102 => ⟨S128x16x16, .f32⟩
  | 103 => ⟨S_, .f32⟩
  | 104 => ⟨S128x16x16, .f32⟩
  | 105 => ⟨S128x16x16, .f32⟩
  | 106 => ⟨S128x16x16, .f32⟩
  | 107 => ⟨S_, .f32⟩
  | 108 => ⟨S128x16x16, .f32⟩
  | 109 => ⟨S128x16x16, .f32⟩
  | 110 => ⟨S128x16x16, .f32⟩
  | 111 => ⟨S128x16x16, .f32⟩
  | 112 => ⟨S128x16x16, .f32⟩
  | 113 => ⟨S_, .f32⟩
  | 114 => ⟨S128x16x16, .f32⟩
  | 115 => ⟨S128x16x16, .f32⟩
  | 116 => ⟨S128x16x16, .f32⟩
  | 117 => ⟨S_, .f32⟩
  | 118 => ⟨S128x16x16, .f32⟩
  | 119 => ⟨S128x16x16, .f32⟩
  | 120 => ⟨S128x16x16, .f32⟩
  | 121 => ⟨S128x16x16, .f32⟩
  | 122 => ⟨S128x16x16, .f32⟩
  | 123 => ⟨S_, .f32⟩
  | 124 => ⟨S128x16x16, .f32⟩
  | 125 => ⟨S128x16x16, .f32⟩
  | 126 => ⟨S128x16x16, .f32⟩
  | 127 => ⟨S_, .f32⟩
  | _ => ⟨S16384x2048, .f32⟩

abbrev hbmTy0_1 (i : Nat) : BufTy := match i % 128 with
  | 0 => ⟨S128x16x16, .f32⟩
  | 1 => ⟨S128x16x16, .f32⟩
  | 2 => ⟨S128x16x16, .f32⟩
  | 3 => ⟨S128x1x1, .f32⟩
  | 4 => ⟨S128x16x16, .f32⟩
  | 5 => ⟨S128x16x16, .f32⟩
  | 6 => ⟨S16384x128x16, .f32⟩
  | 7 => ⟨S1, .f32⟩
  | 8 => ⟨S_, .f32⟩
  | 9 => ⟨S_, .f32⟩
  | 10 => ⟨S_, .f32⟩
  | 11 => ⟨S16384x128x16, .f32⟩
  | 12 => ⟨S16384x128x16, .f32⟩
  | 13 => ⟨S1, .f32⟩
  | 14 => ⟨S_, .f32⟩
  | 15 => ⟨S128x16, .f32⟩
  | 16 => ⟨S1x128x16, .f32⟩
  | 17 => ⟨S1x128x16, .f32⟩
  | 18 => ⟨S1x128x16, .f32⟩
  | 19 => ⟨S16384x128x16, .f32⟩
  | 20 => ⟨S16384x128x16, .f32⟩
  | 21 => ⟨S128x16384x16, .f32⟩
  | 22 => ⟨S16384x128x16, .f32⟩
  | 23 => ⟨S16384x2048, .f32⟩
  | 24 => ⟨S1x2048, .f32⟩
  | 25 => ⟨S16384x2048, .f32⟩
  | 26 => ⟨S16384x2048, .f32⟩
  | 27 => ⟨S1x2048, .f32⟩
  | 28 => ⟨S16384x2048, .f32⟩
  | 29 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_v0 : Ref sig .tc := ⟨.hbm, 62, rfl⟩
abbrev main_call0_v1 : Ref sig .tc := ⟨.hbm, 63, rfl⟩
abbrev main_call0_c : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_cst : Ref sig .tc := ⟨.hbm, 68, rfl⟩
abbrev main_call0_v5 : Ref sig .tc := ⟨.hbm, 69, rfl⟩
abbrev main_call0_call0_v0 : Ref sig .tc := ⟨.hbm, 70, rfl⟩
abbrev main_call0_v6 : Ref sig .tc := ⟨.hbm, 71, rfl⟩
abbrev main_call0_cst_0 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_16 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_18 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩

abbrev nD : Nat := 1
abbrev τ : Topo := Topo.v7x

variable {F : FTy → Type} [FloatOps F]
-- ==== Proof.Body.Basic.lean ====
module

public import proofs.«01_k».proof.Proof.Gen.KernelIdeal.Skeleton
public import proofs.«01_k».proof.Proof.Gen.KernelIdeal.Frame

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The conditions of the kernel's twelve `scf.if`s, in program order -/

/-- The grid position as the kernel's own 32-bit word. -/
abbrev pos (i : grid0.Coords) : BitVec 32 := BitVec.ofNat 32 (i 0).val

/-- The kernel's test that the grid position is `n`. -/
abbrev isAt (n : BitVec 32) (i : grid0.Coords) : Prop := (Scalar.cmpi .ne (Scalar.extui (Scalar.cmpi .eq (pos i) n)) 0#32) = 1#1

/-- The kernel's test that the grid position lies in the first half, where the statistics are gathered. -/
abbrev isBelow (n : BitVec 32) (i : grid0.Coords) : Prop := (Scalar.cmpi .ne (Scalar.extui (Scalar.cmpi .slt (pos i) n)) 0#32) = 1#1

/-- Which of the twelve conditions hold at a grid position, as truth values in program order. -/
structure Taken (b0 b1 b2 b3 b4 b5 b6 b7 b8 b9 b10 b11 : Bool) (i : grid0.Coords) : Prop where
  h0 : isAt 0#32 i ↔ b0 = true
  h1 : isBelow 16#32 i ↔ b1 = true
  h2 : isAt 11#32 i ↔ b2 = true
  h3 : isAt 12#32 i ↔ b3 = true
  h4 : isAt 13#32 i ↔ b4 = true
  h5 : isAt 14#32 i ↔ b5 = true
  h6 : isAt 15#32 i ↔ b6 = true
  h7 : k0_cond8 i = 1#1 ↔ b7 = true
  h8 : k0_cond9 i = 1#1 ↔ b8 = true
  h9 : k0_cond10 i = 1#1 ↔ b9 = true
  h10 : k0_cond11 i = 1#1 ↔ b10 = true
  h11 : k0_cond12 i = 1#1 ↔ b11 = true

/-- The eleven buffers of the kernel's body, each held at the named contents. -/
def Held (c : Dev nD) (arg1 : Memref sig .tc .smem S3 .f32) (arg2 : Memref sig .tc .vmem S1024x2048 .f32)
    (arg3 arg4 : Memref sig .tc .vmem S8x1x256 .f32) (arg5 : Memref sig .tc .vmem S1024x2048 .f32)
    (arg6 : Memref sig .tc .vmem S8x256x256 .f32) (arg7 : Memref sig .tc .vmem S8x1x256 .f32)
    (arg8 : Memref sig .tc .vmem S8x256x256 .f32) (arg9 : Memref sig .tc .vmem S8x256x256 .bf16)
    (arg10 : Memref sig .tc .vmem S8x1x256 .f32) (arg11 : Memref sig .tc .vmem S4x1024x2048 .bf16)
    (x0 : Vec F S3 .f32) (x1 : Vec F S1024x2048 .f32) (x2 x3 : Vec F S8x1x256 .f32) (o : Vec F S1024x2048 .f32)
    (s0 : Vec F S8x256x256 .f32) (s1 : Vec F S8x1x256 .f32) (s2 : Vec F S8x256x256 .f32)
    (s3 : Vec F S8x256x256 .bf16) (s4 : Vec F S8x1x256 .f32) (s5 : Vec F S4x1024x2048 .bf16) : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare o ∗ owns (c : Thread nD τ) arg6 fullShare s0
    ∗ owns (c : Thread nD τ) arg7 fullShare s1 ∗ owns (c : Thread nD τ) arg8 fullShare s2
    ∗ owns (c : Thread nD τ) arg9 fullShare s3 ∗ owns (c : Thread nD τ) arg10 fullShare s4
    ∗ owns (c : Thread nD τ) arg11 fullShare s5)

end Cert.KernelIdeal.Body

end
-- ==== Proof.Body.Blocks.lean ====
module

public import proofs.«01_k».proof.Proof.Gen.KernelIdeal.Skeleton
public import proofs.«01_k».proof.Proof.Gen.KernelIdeal.Frame
public import Idealize.ShloMosaic.Lib.Pipeline.ValueKit
public import Idealize.ShloMosaic.Lib.Pipeline.ReadBack

/-! # What one block of the kernel computes

The kernel cuts its 2048 channels into eight slices of 256 channels and treats each slice alone. This module names what
it computes of one slice, and how eight slices are put side by side in a buffer. -/

@[expose] public section

set_option maxRecDepth 16384

noncomputable section

namespace Cert.KernelIdeal.Body

open Cert.KernelIdeal.Gen
open Idealize.ShloMosaic Idealize.ShloMosaic.TcCoe Idealize.ShloMosaic.Tactic

variable {F : FTy → Type} [FloatOps F] {e : EltTy}

/-! ## Slices of a buffer -/

/-- A slice's columns lie inside a block of rows. -/
theorem colR_inb (k : Fin 8) : ∀ a, (![0, 256 * k.val] : Fin 2 → ℕ) a + S1024x256.size a ≤ S1024x2048.size a := by
  revert k; decide

/-- A slice's matrix lies inside the stack of matrices. -/
theorem slabR_inb (k : Fin 8) : ∀ a, (![k.val, 0, 0] : Fin 3 → ℕ) a + S1x256x256.size a ≤ S8x256x256.size a := by
  revert k; decide

/-- A slice's row lies inside the stack of rows. -/
theorem rowR_inb (k : Fin 8) : ∀ a, (![k.val, 0, 0] : Fin 3 → ℕ) a + S1x1x256.size a ≤ S8x1x256.size a := by
  revert k; decide

/-- A kept block lies inside the buffer of the kept blocks. -/
theorem saveR_inb (k : Fin 4) : ∀ a, (![k.val, 0, 0] : Fin 3 → ℕ) a + S1x1024x2048.size a ≤ S4x1024x2048.size a := by
  revert k; decide

/-- The 256 columns of channel slice `k` of a block of rows. -/
abbrev colR (k : Fin 8) : Rect S1024x2048 := Rect.unit (s := S1024x2048) ![0, 256 * k.val] S1024x256.size (colR_inb k)

/-- The matrix of channel slice `k` in a stack of eight. -/
abbrev slabR (k : Fin 8) : Rect S8x256x256 := Rect.unit (s := S8x256x256) ![k.val, 0, 0] S1x256x256.size (slabR_inb k)

/-- The row of channel slice `k` in a stack of eight. -/
abbrev rowR (k : Fin 8) : Rect S8x1x256 := Rect.unit (s := S8x1x256) ![k.val, 0, 0] S1x1x256.size (rowR_inb k)

/-- The block of rows at place `k` of the four saved ones. -/
abbrev saveR (k : Fin 4) : Rect S4x1024x2048 := Rect.unit (s := S4x1024x2048) ![k.val, 0, 0] S1x1024x2048.size (saveR_inb k)

/-- Channel slice `k` of a block of rows. -/
abbrev colAt (x : Vec F S1024x2048 e) (k : Fin 8) : Vec F S1024x256 e := View.ld x (colR k)

/-- Matrix `k` of a stack. -/
abbrev slabAt (x : Vec F S8x256x256 e) (k : Fin 8) : Vec F S1x256x256 e := View.ld x (slabR k)

/-- Row `k` of a stack. -/
abbrev rowAt (x : Vec F S8x1x256 e) (k : Fin 8) : Vec F S1x1x256 e := View.ld x (rowR k)

/-- Eight channel slices side by side. -/
def glueCols (f : Fin 8 → Vec F S1024x256 e) : Vec F S1024x2048 e := fun y =>
  f ⟨(y 1).val / 256, Nat.div_lt_of_lt_mul (y 1).isLt⟩ (ix2 (y 0) ⟨(y 1).val % 256, Nat.mod_lt _ (by decide)⟩)

/-- Eight matrices stacked. -/
def glueSlabs (f : Fin 8 → Vec F S1x256x256 e) : Vec F S8x256x256 e := fun y => f (y 0) (ix3 0 (y 1) (y 2))

/-- Eight rows stacked. -/
def glueRows (f : Fin 8 → Vec F S1x1x256 e) : Vec F S8x1x256 e := fun y => f (y 0) (ix3 0 (y 1) (y 2))

/-- Slices side by side, read in the columns of slice `k`, are slice `k`. -/
theorem glueCols_at (f : Fin 8 → Vec F S1024x256 e) (k : Fin 8) (x : S1024x256.Idx) : glueCols f ((colR k).emb x) = f k x := by
  have hx : (x 1).val < 256 := (x 1).isLt
  have h0 : (((colR k).emb x 0 : Fin _) : ℕ) = 0 + 1 * (x 0).val := rfl
  have h1 : (((colR k).emb x 1 : Fin _) : ℕ) = 256 * k.val + 1 * (x 1).val := rfl
  have hk : (⟨((colR k).emb x 1).val / 256, Nat.div_lt_of_lt_mul ((colR k).emb x 1).isLt⟩ : Fin 8) = k :=
    Fin.ext (by show (((colR k).emb x 1 : Fin _) : ℕ) / 256 = k.val; rw [h1]; omega)
  refine (congrFun (congrArg f hk) _).trans (congrArg (f k) ?_)
  · funext a
    match a with
    | ⟨0, _⟩ => exact Fin.ext (by show (((colR k).emb x 0 : Fin _) : ℕ) = _; rw [h0]; simp)
    | ⟨1, _⟩ => exact Fin.ext (by show (((colR k).emb x 1 : Fin _) : ℕ) % 256 = (x 1).val; rw [h1]; omega)

/-- Matrices stacked, read at place `k`, are matrix `k`. -/
theorem glueSlabs_at (f : Fin 8 → Vec F S1x256x256 e) (k : Fin 8) (x : S1x256x256.Idx) : glueSlabs f ((slabR k).emb x) = f k x := by
  have hx : (x 0).val < 1 := (x 0).isLt
  have h0 : (((slabR k).emb x 0 : Fin _) : ℕ) = k.val + 1 * (x 0).val := rfl
  have h1 : (((slabR k).emb x 1 : Fin _) : ℕ) = 0 + 1 * (x 1).val := rfl
  have h2 : (((slabR k).emb x 2 : Fin _) : ℕ) = 0 + 1 * (x 2).val := rfl
  have hk : ((slabR k).emb x 0 : Fin 8) = k := Fin.ext (by rw [h0]; omega)
  refine (congrFun (congrArg f hk) _).trans (congrArg (f k) ?_)
  · funext a
    match a with
    | ⟨0, _⟩ => exact Fin.ext (by show 0 = (x 0).val; omega)
    | ⟨1, _⟩ => exact Fin.ext (by show (((slabR k).emb x 1 : Fin _) : ℕ) = (x 1).val; omega)
    | ⟨2, _⟩ => exact Fin.ext (by show (((slabR k).emb x 2 : Fin _) : ℕ) = (x 2).val; omega)

/-- Rows stacked, read at place `k`, are row `k`. -/
theorem glueRows_at (f : Fin 8 → Vec F S1x1x256 e) (k : Fin 8) (x : S1x1x256.Idx) : glueRows f ((rowR k).emb x) = f k x := by
  have hx : (x 0).val < 1 := (x 0).isLt
  have h0 : (((rowR k).emb x 0 : Fin _) : ℕ) = k.val + 1 * (x 0).val := rfl
  have h1 : (((rowR k).emb x 1 : Fin _) : ℕ) = 0 + 1 * (x 1).val := rfl
  have h2 : (((rowR k).emb x 2 : Fin _) : ℕ) = 0 + 1 * (x 2).val := rfl
  have hk : ((rowR k).emb x 0 : Fin 8) = k := Fin.ext (by rw [h0]; omega)
  refine (congrFun (congrArg f hk) _).trans (congrArg (f k) ?_)
  · funext a
    match a with
    | ⟨0, _⟩ => exact Fin.ext (by show 0 = (x 0).val; omega)
    | ⟨1, _⟩ => exact Fin.ext (by show (((rowR k).emb x 1 : Fin _) : ℕ) = (x 1).val; omega)
    | ⟨2, _⟩ => exact Fin.ext (by show (((rowR k).emb x 2 : Fin _) : ℕ) = (x 2).val; omega)

/-- A view's contents after stores which are blocks of `G` and together cover everything read as `G`. -/
theorem read_writes_of_piecesOf {κ : Kind} {sp : Space} {s : Shape} (v : View sig κ sp s e) (f : v.ty.Contents (Elt F))
    (G : Vec F s e) (L : List (View.Piece (Elt F) s e)) (h : View.PiecesOf G L) (hc : ∀ y, ∃ p ∈ L, y ∈ p.1.set) :
    v.read (Elt F) (v.writes (Elt F) f L) = G := by
  rw [View.read_writes_eq_canon v f L hc]
  funext y
  simpa using View.canon_append_of_piecesOf G [] L h y (hc y)

/-! ## The statistics of one slice -/

/-- A slice's sum of squares with one more block of rows added: `sxx + xᵀ x`. -/
def addSquares (x : Vec F S1024x256 .f32) (sxx : Vec F S1x256x256 .f32) : Vec F S1x256x256 .f32 := k0_pay4 x sxx

/-- A slice's sum with one more block of rows added. -/
def addRows (x : Vec F S1024x256 .f32) (sx : Vec F S1x1x256 .f32) : Vec F S1x1x256 .f32 := k0_pay5 x sx

/-- No squares yet. -/
def zeroSlabs : Vec F S8x256x256 .f32 := k0_pay137

/-- No rows yet. -/
def zeroRows : Vec F S8x1x256 .f32 := k0_pay138

/-! ## The whitening matrix of one slice -/

/-- The unit matrix. -/
def unitMat : FVec F S256x256 .f32 := k0_pay21

/-- The matrix that is one where row and column lie in the same group of sixteen channels, zero elsewhere. -/
def groupMat : FVec F S256x256 .f32 :=
  k0_pay25 (iota .tc S256x256 32 [1] iota_S256x256_d1_w32) k0_pay22 16#32 k0_pay23 k0_pay24 (Scalar.extui (Scalar.cmpi .sgt 16#32 0#32))
    (Scalar.extui (Scalar.cmpi .slt 16#32 0#32))

/-- Matrix product. -/
def mul (a b : FVec F S256x256 .f32) : FVec F S256x256 .f32 :=
  matmul dot_S256x256_S256x256_S256x256_1_0_0_1_n_n none a b (constant S256x256 .f32 0x00000000#32)

/-- Row times matrix. -/
def rowMul (a : FVec F S1x256 .f32) (b : FVec F S256x256 .f32) : FVec F S1x256 .f32 :=
  matmul dot_S1x256_S256x256_S1x256_1_0_0_1_n_n none a b (constant S1x256 .f32 0x00000000#32)

/-- A number times a matrix. -/
def scale (a : F .f32) (b : FVec F S256x256 .f32) : FVec F S256x256 .f32 := mulf (broadcast S256x256 a) b

/-- A row repeated downwards. -/
def down (a : FVec F S1x256 .f32) : FVec F S256x256 .f32 := broadcastTo S256x256 a broadcasts_S1x256_S256x256

/-- The mean of the slice's channels, from their sums over all rows. -/
def meanRow (sx : Vec F S1x1x256 .f32) : FVec F S1x256 .f32 :=
  mulf (shapeCast S1x256 sx shapeCasts_S1x1x256_S1x256) (broadcast S1x256 (Scalar.ofBits .f32 0x38800000#32))

/-- The covariance of the slice's channels within their groups, weighted and with a small multiple of the unit matrix added. -/
def covMat (vw : F .f32) (sx : Vec F S1x1x256 .f32) (sxx : Vec F S1x256x256 .f32) : FVec F S256x256 .f32 :=
  addf (mulf (broadcast S256x256 vw) (mulf groupMat
      (subf (mulf (shapeCast S256x256 sxx shapeCasts_S1x256x256_S256x256) (broadcast S256x256 (Scalar.ofBits .f32 0x38800000#32)))
        (matmul dot_S1x256_S1x256_S256x256_0_0_1_1_n_n none (meanRow sx) (meanRow sx) (constant S256x256 .f32 0x00000000#32)))))
    (mulf (broadcast S256x256 (Scalar.ofBits .f32 0x3727C5AC#32)) unitMat)

/-- One over the trace of a channel's group, for every channel. -/
def traceInv (cov : FVec F S256x256 .f32) : FVec F S1x256 .f32 :=
  divf (broadcast S1x256 (Scalar.ofBits .f32 0x3F800000#32))
    (rowMul (shapeCast S1x256 (multiReduction .add [0] S256 (mulf cov unitMat) 0x00000000#32 reduces_S256x256_S256 (.inl rfl) rfl)
      shapeCasts_S256_S1x256) groupMat)

/-- The covariance divided by its group's trace, times minus one half. -/
def halfCov (cov : FVec F S256x256 .f32) : FVec F S256x256 .f32 :=
  mulf cov (down (mulf (broadcast S1x256 (Scalar.ofBits .f32 0xBF000000#32)) (traceInv cov)))

/-- One Newton–Schulz step `1.5 p + p³ n`. -/
def newton (n p : FVec F S256x256 .f32) : FVec F S256x256 .f32 :=
  addf (scale (Scalar.ofBits .f32 0x3FC00000#32) p) (mul (mul (mul p p) p) n)

/-- Five Newton–Schulz steps from the unit matrix, the first one written out. -/
def newton5 (n : FVec F S256x256 .f32) : FVec F S256x256 .f32 :=
  newton n (newton n (newton n (newton n (addf (scale (Scalar.ofBits .f32 0x3FC00000#32) unitMat) n))))

/-- The slice's whitening matrix, its columns scaled by the square root of one over the trace and by the weight. -/
def whitener (cov : FVec F S256x256 .f32) (w : Vec F S1x1x256 .f32) : FVec F S256x256 .f32 :=
  mulf (mulf (newton5 (halfCov cov)) (down (sqrt (traceInv cov)))) (down (shapeCast S1x256 w shapeCasts_S1x1x256_S1x256))

/-- The matrix which the rows are multiplied with. -/
def weightMat (a vw : F .f32) (sx : Vec F S1x1x256 .f32) (sxx : Vec F S1x256x256 .f32) (w : Vec F S1x1x256 .f32) : Vec F S1x256x256 .f32 :=
  shapeCast S1x256x256 (scale a (whitener (covMat vw sx sxx) w)) shapeCasts_S256x256_S1x256x256

/-- The same matrix in the shorter format, for the saved rows. -/
def weightMat16 (a vw : F .f32) (sx : Vec F S1x1x256 .f32) (sxx : Vec F S1x256x256 .f32) (w : Vec F S1x1x256 .f32) : Vec F S1x256x256 .bf16 :=
  shapeCast S1x256x256 (truncf .bf16 (scale a (whitener (covMat vw sx sxx) w)) bitsLt_bf16_f32) shapeCasts_S256x256_S1x256x256

/-- The row which is added at the end. -/
def biasRow (b vw : F .f32) (sx : Vec F S1x1x256 .f32) (sxx : Vec F S1x256x256 .f32) (w bias : Vec F S1x1x256 .f32) : Vec F S1x1x256 .f32 :=
  shapeCast S1x1x256 (subf (shapeCast S1x256 bias shapeCasts_S1x1x256_S1x256)
    (mulf (broadcast S1x256 b) (rowMul (meanRow sx) (whitener (covMat vw sx sxx) w)))) shapeCasts_S1x256_S1x1x256

/-! ## The result's rows in one slice -/

/-- Rows times the slice's matrix plus the slice's row. -/
def applied (x : Vec F S1024x256 .f32) (w : Vec F S1x256x256 .f32) (b : Vec F S1x1x256 .f32) : Vec F S1024x256 .f32 := k0_pay98 x w b

/-- The same for rows saved in the shorter format. -/
def applied16 (x : Vec F S1024x256 .bf16) (w : Vec F S1x256x256 .bf16) (b : Vec F S1x1x256 .f32) : Vec F S1024x256 .f32 := k0_pay1 x w b

/-! ## Whole buffers, slice by slice -/

/-- All sums of squares with one more block of rows added. -/
def squaresBlock (x : Vec F S1024x2048 .f32) (sxx : Vec F S8x256x256 .f32) : Vec F S8x256x256 .f32 :=
  glueSlabs fun k => addSquares (colAt x k) (slabAt sxx k)

/-- All sums with one more block of rows added. -/
def rowsBlock (x : Vec F S1024x2048 .f32) (sx : Vec F S8x1x256 .f32) : Vec F S8x1x256 .f32 :=
  glueRows fun k => addRows (colAt x k) (rowAt sx k)

/-- All matrices. -/
def weightBlock (a vw : F .f32) (sx : Vec F S8x1x256 .f32) (sxx : Vec F S8x256x256 .f32) (w : Vec F S8x1x256 .f32) : Vec F S8x256x256 .f32 :=
  glueSlabs fun k => weightMat a vw (rowAt sx k) (slabAt sxx k) (rowAt w k)

/-- All matrices in the shorter format. -/
def weightBlock16 (a vw : F .f32) (sx : Vec F S8x1x256 .f32) (sxx : Vec F S8x256x256 .f32) (w : Vec F S8x1x256 .f32) : Vec F S8x256x256 .bf16 :=
  glueSlabs fun k => weightMat16 a vw (rowAt sx k) (slabAt sxx k) (rowAt w k)

/-- All rows to be added. -/
def biasBlock (b vw : F .f32) (sx : Vec F S8x1x256 .f32) (sxx : Vec F S8x256x256 .f32) (w bias : Vec F S8x1x256 .f32) : Vec F S8x1x256 .f32 :=
  glueRows fun k => biasRow b vw (rowAt sx k) (slabAt sxx k) (rowAt w k) (rowAt bias k)

/-- A block of the result. -/
def applyBlock (x : Vec F S1024x2048 .f32) (w : Vec F S8x256x256 .f32) (b : Vec F S8x1x256 .f32) : Vec F S1024x2048 .f32 :=
  glueCols fun k => applied (colAt x k) (slabAt w k) (rowAt b k)

/-- A block of the result, from rows saved in the shorter format. -/
def applyBlock16 (x : Vec F S1024x2048 .bf16) (w : Vec F S8x256x256 .bf16) (b : Vec F S8x1x256 .f32) : Vec F S1024x2048 .f32 :=
  glueCols fun k => applied16 (colAt x k) (slabAt w k) (rowAt b k)

/-- The sums of products, seen in one slice. -/
theorem squaresBlock_at (x : Vec F S1024x2048 .f32) (sxx : Vec F S8x256x256 .f32) (k : Fin 8) (y : S1x256x256.Idx) :
    squaresBlock x sxx ((slabR k).emb y) = addSquares (colAt x k) (slabAt sxx k) y := glueSlabs_at _ k y

/-- The sums of the rows, seen in one slice. -/
theorem rowsBlock_at (x : Vec F S1024x2048 .f32) (sx : Vec F S8x1x256 .f32) (k : Fin 8) (y : S1x1x256.Idx) :
    rowsBlock x sx ((rowR k).emb y) = addRows (colAt x k) (rowAt sx k) y := glueRows_at _ k y

/-- The prepared matrices, seen in one slice. -/
theorem weightBlock_at (a vw : F .f32) (sx : Vec F S8x1x256 .f32) (sxx : Vec F S8x256x256 .f32) (w : Vec F S8x1x256 .f32) (k : Fin 8)
    (y : S1x256x256.Idx) :
    weightBlock a vw sx sxx w ((slabR k).emb y) = weightMat a vw (rowAt sx k) (slabAt sxx k) (rowAt w k) y := glueSlabs_at _ k y

/-- The prepared matrices in the shorter format, seen in one slice. -/
theorem weightBlock16_at (a vw : F .f32) (sx : Vec F S8x1x256 .f32) (sxx : Vec F S8x256x256 .f32) (w : Vec F S8x1x256 .f32) (k : Fin 8)
    (y : S1x256x256.Idx) :
    weightBlock16 a vw sx sxx w ((slabR k).emb y) = weightMat16 a vw (rowAt sx k) (slabAt sxx k) (rowAt w k) y := glueSlabs_at _ k y

/-- The prepared rows, seen in one slice. -/
theorem biasBlock_at (b vw : F .f32) (sx : Vec F S8x1x256 .f32) (sxx : Vec F S8x256x256 .f32) (w bias : Vec F S8x1x256 .f32) (k : Fin 8)
    (y : S1x1x256.Idx) :
    biasBlock b vw sx sxx w bias ((rowR k).emb y) = biasRow b vw (rowAt sx k) (slabAt sxx k) (rowAt w k) (rowAt bias k) y :=
  glueRows_at _ k y

/-- A block of the result, seen in one slice. -/
theorem applyBlock_at (x : Vec F S1024x2048 .f32) (w : Vec F S8x256x256 .f32) (b : Vec F S8x1x256 .f32) (k : Fin 8) (y : S1024x256.Idx) :
    applyBlock x w b ((colR k).emb y) = applied (colAt x k) (slabAt w k) (rowAt b k) y := glueCols_at _ k y

/-- A block of the result from rows in the shorter format, seen in one slice. -/
theorem applyBlock16_at (x : Vec F S1024x2048 .bf16) (w : Vec F S8x256x256 .bf16) (b : Vec F S8x1x256 .f32) (k : Fin 8) (y : S1024x256.Idx) :
    applyBlock16 x w b ((colR k).emb y) = applied16 (colAt x k) (slabAt w k) (rowAt b k) y := glueCols_at _ k y

/-- The saved block at place `k`. -/
def savedAt (s : Vec F S4x1024x2048 .bf16) (k : Fin 4) : Vec F S1024x2048 .bf16 := fun y => s (ix3 k (y 0) (y 1))

/-- A block of rows written at place `k` of the saved ones. -/
def saveBlock (x : Vec F S1024x2048 .f32) (k : Fin 4) (s : Vec F S4x1024x2048 .bf16) : Vec F S4x1024x2048 .bf16 := fun y =>
  if (y 0).val = k.val then truncf .bf16 x bitsLt_bf16_f32 (ix2 (y 1) (y 2)) else s y

end Cert.KernelIdeal.Body

end
-- ==== Proof.Body.ReadBack.lean ====
module

public import proofs.«01_k».proof.Proof.Body.Blocks
public import Idealize.ShloMosaic.Lib.WholeRead

/-! # What a buffer holds after eight stores, one per slice

Each theorem takes a buffer of any earlier contents, stores into it for every channel slice what that slice computes from
the buffers it loads, and names the whole contents afterwards. -/

@[expose] public section

set_option maxRecDepth 16384

noncomputable section

namespace Cert.KernelIdeal.Body

open Cert.KernelIdeal.Gen
open Idealize.ShloMosaic Idealize.ShloMosaic.TcCoe Idealize.ShloMosaic.Tactic

variable {F : FTy → Type} [FloatOps F] {e : EltTy} {κ : Kind} {sp sp' : Space} {s : Shape}

/-- The slices in the order of the last store first. -/
abbrev slices : List (Fin 8) := [7, 6, 5, 4, 3, 2, 1, 0]

/-- Every slice is in the list of the slices. -/
theorem mem_slices : ∀ k : Fin 8, k ∈ slices := by decide

/-- Eight stores which are blocks of `G`, in rectangles that cover the buffer, leave `G`. -/
theorem read_slices (v : View sig κ sp s e) (f : v.ty.Contents (Elt F)) (G : Vec F s e)
    (p : Fin 8 → View.Piece (Elt F) s e) (h : ∀ k x, (p k).2 x = G ((p k).1.emb x)) (hc : ∀ y, ∃ k, y ∈ (p k).1.set) :
    v.read (Elt F) (v.writes (Elt F) f (slices.map p)) = G := by
  refine read_writes_of_piecesOf v f G _ ⟨h 7, h 6, h 5, h 4, h 3, h 2, h 1, h 0, trivial⟩ fun y => ?_
  obtain ⟨k, hk⟩ := hc y
  exact ⟨p k, List.mem_map.2 ⟨k, mem_slices k, rfl⟩, hk⟩

/-- Every place of a block of rows lies in a slice's columns. -/
theorem colR_cover (y : S1024x2048.Idx) : ∃ k, y ∈ (colR k).set := by
  have h0 : (y 0).val < 1024 := (y 0).isLt
  have h1 : (y 1).val < 2048 := (y 1).isLt
  refine ⟨⟨(y 1).val / 256, by omega⟩, Rect.mem_set_unit.2 fun a => ?_⟩
  match a with
  | ⟨0, _⟩ => exact ⟨Nat.zero_le _, by show (y 0).val < 0 + 1024; omega⟩
  | ⟨1, _⟩ =>
    constructor
    · show 256 * ((y 1).val / 256) ≤ (y 1).val; omega
    · show (y 1).val < 256 * ((y 1).val / 256) + 256; omega

/-- Every place of a stack of matrices lies in one of them. -/
theorem slabR_cover (y : S8x256x256.Idx) : ∃ k, y ∈ (slabR k).set := by
  have h1 : (y 1).val < 256 := (y 1).isLt
  have h2 : (y 2).val < 256 := (y 2).isLt
  refine ⟨y 0, Rect.mem_set_unit.2 fun a => ?_⟩
  match a with
  | ⟨0, _⟩ => exact ⟨Nat.le_refl _, by show (y 0).val < (y 0).val + 1; omega⟩
  | ⟨1, _⟩ => exact ⟨Nat.zero_le _, by show (y 1).val < 0 + 256; omega⟩
  | ⟨2, _⟩ => exact ⟨Nat.zero_le _, by show (y 2).val < 0 + 256; omega⟩

/-- Every place of a stack of rows lies in one of them. -/
theorem rowR_cover (y : S8x1x256.Idx) : ∃ k, y ∈ (rowR k).set := by
  have h1 : (y 1).val < 1 := (y 1).isLt
  have h2 : (y 2).val < 256 := (y 2).isLt
  refine ⟨y 0, Rect.mem_set_unit.2 fun a => ?_⟩
  match a with
  | ⟨0, _⟩ => exact ⟨Nat.le_refl _, by show (y 0).val < (y 0).val + 1; omega⟩
  | ⟨1, _⟩ => exact ⟨Nat.zero_le _, by show (y 1).val < 0 + 1; omega⟩
  | ⟨2, _⟩ => exact ⟨Nat.zero_le _, by show (y 2).val < 0 + 256; omega⟩

/-! ## The kernel's own eight stores -/

variable (m1 : Memref sig .tc .smem S3 .f32) (h1 : m1.IsWhole) (x0 : Vec F S3 .f32)
  (m2 : Memref sig .tc .vmem S1024x2048 .f32) (h2 : m2.IsWhole) (x : Vec F S1024x2048 .f32)
  (m3 : Memref sig .tc .vmem S8x1x256 .f32) (h3 : m3.IsWhole) (w : Vec F S8x1x256 .f32)
  (m4 : Memref sig .tc .vmem S8x1x256 .f32) (h4 : m4.IsWhole) (b : Vec F S8x1x256 .f32)
  (m5 : Memref sig .tc .vmem S1024x2048 .f32)
  (m6 : Memref sig .tc .vmem S8x256x256 .f32) (h6 : m6.IsWhole) (s0 : Vec F S8x256x256 .f32)
  (m7 : Memref sig .tc .vmem S8x1x256 .f32) (h7 : m7.IsWhole) (s1 : Vec F S8x1x256 .f32)
  (m8 : Memref sig .tc .vmem S8x256x256 .f32) (h8 : m8.IsWhole) (s2 : Vec F S8x256x256 .f32)
  (m9 : Memref sig .tc .vmem S8x256x256 .bf16) (h9 : m9.IsWhole) (s3 : Vec F S8x256x256 .bf16)
  (m10 : Memref sig .tc .vmem S8x1x256 .f32) (h10 : m10.IsWhole) (s4 : Vec F S8x1x256 .f32)

/-- The eight stores of the sums of products leave all of them. -/
theorem squares_read (f : m6.view.ty.Contents (Elt F)) :
    m6.view.read (Elt F) (m6.view.writes (Elt F) f (slices.map fun k => ⟨slabR k,
      addSquares (m2.view.readAt (Elt F) (colR k).toLoadRect (h2.unread x)) (m6.view.readAt (Elt F) (slabR k).toLoadRect (h6.unread s0))⟩))
      = squaresBlock x s0 := by
  refine read_slices _ _ _ _ (fun k y => ?_) slabR_cover
  simp only [View.readAt_eq_ld, h2.read_unread, h6.read_unread]
  exact (squaresBlock_at x s0 k y).symm

/-- The eight stores of the sums of the rows leave all of them. -/
theorem rows_read (f : m7.view.ty.Contents (Elt F)) :
    m7.view.read (Elt F) (m7.view.writes (Elt F) f (slices.map fun k => ⟨rowR k,
      addRows (m2.view.readAt (Elt F) (colR k).toLoadRect (h2.unread x)) (m7.view.readAt (Elt F) (rowR k).toLoadRect (h7.unread s1))⟩))
      = rowsBlock x s1 := by
  refine read_slices _ _ _ _ (fun k y => ?_) rowR_cover
  simp only [View.readAt_eq_ld, h2.read_unread, h7.read_unread]
  exact (rowsBlock_at x s1 k y).symm

/-- The eight stores of a block of the result leave the whole block. -/
theorem apply_read (f : m5.view.ty.Contents (Elt F)) :
    m5.view.read (Elt F) (m5.view.writes (Elt F) f (slices.map fun k => ⟨colR k,
      applied (m2.view.readAt (Elt F) (colR k).toLoadRect (h2.unread x)) (m8.view.readAt (Elt F) (slabR k).toLoadRect (h8.unread s2))
        (m10.view.readAt (Elt F) (rowR k).toLoadRect (h10.unread s4))⟩))
      = applyBlock x s2 s4 := by
  refine read_slices _ _ _ _ (fun k y => ?_) colR_cover
  simp only [View.readAt_eq_ld, h2.read_unread, h8.read_unread, h10.read_unread]
  exact (applyBlock_at x s2 s4 k y).symm

/-- A store of the whole buffer leaves what is stored. -/
theorem whole_read {off : Fin s.rank → ℕ} (inb : ∀ a, off a + s.size a ≤ s.size a) (v : View sig κ sp s e) (f : v.ty.Contents (Elt F))
    (G : Vec F s e) : v.read (Elt F) (v.writes (Elt F) f [⟨Rect.unit off s.size inb, G⟩]) = G := by
  refine read_writes_of_piecesOf v f G _ ⟨fun y => congrArg G (funext fun a => Fin.ext ?_), trivial⟩ fun y => ?_
  · have := inb a
    show (y a).val = off a + 1 * (y a).val
    omega
  · refine ⟨_, List.mem_singleton_self _, (Rect.mem_set_unit (inb := inb)).2 fun a => ?_⟩
    have := inb a
    have := (y a).isLt
    exact ⟨by omega, by omega⟩

/-- A store of one saved block leaves the others alone. -/
theorem save_read (m11 : Memref sig .tc .vmem S4x1024x2048 .bf16) (h11 : m11.IsWhole) (s5 : Vec F S4x1024x2048 .bf16) (k : Fin 4) :
    m11.view.read (Elt F) (m11.view.writes (Elt F) (h11.unread s5) [⟨saveR k, k0_pay142
      (m2.view.readAt (Elt F) (Rect.unit ![0, 0] S1024x2048.size inb_S1024x2048_S1024x2048_0_0).toLoadRect (h2.unread x))⟩])
      = saveBlock x k s5 := by
  rw [View.readAt_eq_ld, h2.read_unread,
    View.ld_unit_zero (funext fun a => by match a with | ⟨0, _⟩ => rfl | ⟨1, _⟩ => rfl) inb_S1024x2048_S1024x2048_0_0]
  funext y
  have hy1 : (y 1).val < 1024 := (y 1).isLt
  have hy2 : (y 2).val < 2048 := (y 2).isLt
  unfold saveBlock
  split_ifs with hy
  · have he : y = (saveR k).emb (ix3 0 (y 1) (y 2)) := funext fun a => Fin.ext (by
      match a with
      | ⟨0, _⟩ => show (y 0).val = k.val + 1 * 0; omega
      | ⟨1, _⟩ => show (y 1).val = 0 + 1 * (y 1).val; omega
      | ⟨2, _⟩ => show (y 2).val = 0 + 1 * (y 2).val; omega)
    conv_lhs => rw [he]
    rw [View.read_writes_cons_emb]
    refine (shapeCast_addUnit_apply ![1024, 2048] (truncf .bf16 x bitsLt_bf16_f32) shapeCasts_S1024x2048_S1x1024x2048 (ix3 0 (y 1) (y 2))).trans
      (congrArg (truncf .bf16 x bitsLt_bf16_f32) (funext fun a => by
      match a with
      | ⟨0, _⟩ => rfl
      | ⟨1, _⟩ => rfl))
  · rw [View.read_writes_apply_of_forall_not_mem, h11.read_unread]
    intro p hp hm
    rw [List.mem_singleton] at hp
    subst hp
    have h0 := ((Rect.mem_set_unit (inb := saveR_inb k)).1 hm) 0
    have ha : k.val ≤ (y 0).val := h0.1
    have hb : (y 0).val < k.val + 1 := h0.2
    omega

/-- A kept block has the size of a block of rows. -/
theorem lift_size : ∀ a : Fin 2, (![1, 1024, 2048] : Fin 3 → ℕ) a.succ = S1024x2048.size a := by decide

/-- The place of slice `j` of the saved block `k` in the buffer of the saved blocks. -/
abbrev savedR (k : Fin 4) (j : Fin 8) : LoadRect S4x1024x2048 :=
  (saveR k).withinL ((colR j).toLoadRect.consLift ![1, 1024, 2048] rfl lift_size) fun _ => rfl

/-- A load of slice `j` of the saved block `k`. -/
abbrev savedLoad (m11 : Memref sig .tc .vmem S4x1024x2048 .bf16) (f : m11.view.ty.Contents (Elt F)) (k : Fin 4) (j : Fin 8) :
    Vec F S1024x256 .bf16 :=
  LoadRect.valAlong (lr := (colR j).toLoadRect) (LoadRect.numel_consLift (colR j).toLoadRect ![1, 1024, 2048] rfl lift_size)
    (m11.view.readAt (Elt F) (savedR k j) f)

/-- A load of a slice of a kept block gives that slice of it. -/
theorem savedLoad_unread (m11 : Memref sig .tc .vmem S4x1024x2048 .bf16) (h11 : m11.IsWhole) (s5 : Vec F S4x1024x2048 .bf16) (k : Fin 4)
    (j : Fin 8) : savedLoad m11 (h11.unread s5) k j = colAt (savedAt s5 k) j := by
  funext x
  refine (Memref.IsWhole.readAt_unread h11 s5 (savedR k j) _).trans ?_
  have key : ∀ z : (savedR k j).shape.Idx, z = (Fin.cons ⟨0, Nat.one_pos⟩ x : ((colR j).toLoadRect.consLift ![1, 1024, 2048] rfl lift_size).shape.Idx) →
      s5 ((savedR k j).idx z) = colAt (savedAt s5 k) j x := by
    rintro z rfl
    refine congrArg s5 (funext fun a => Fin.ext ?_)
    match a with
    | ⟨0, _⟩ => show k.val + 0 + 1 * 0 = k.val; omega
    | ⟨1, _⟩ => show 0 + 0 + 1 * (x 0).val = 0 + 1 * (x 0).val; omega
    | ⟨2, _⟩ => show 0 + 256 * j.val + 1 * (x 1).val = 256 * j.val + 1 * (x 1).val; omega
  exact key _ (Shape.reshapeEquiv_cons_one (d := ![1024, 256]) _ x)

/-- The eight stores of a block of the result from kept rows leave the whole block. -/
theorem apply16_read (m11 : Memref sig .tc .vmem S4x1024x2048 .bf16) (h11 : m11.IsWhole) (s5 : Vec F S4x1024x2048 .bf16) (k : Fin 4)
    (f : m5.view.ty.Contents (Elt F)) :
    m5.view.read (Elt F) (m5.view.writes (Elt F) f (slices.map fun j => ⟨colR j,
      applied16 (savedLoad m11 (h11.unread s5) k j) (m9.view.readAt (Elt F) (slabR j).toLoadRect (h9.unread s3))
        (m10.view.readAt (Elt F) (rowR j).toLoadRect (h10.unread s4))⟩))
      = applyBlock16 (savedAt s5 k) s3 s4 := by
  refine read_slices _ _ _ _ (fun j y => ?_) colR_cover
  show applied16 _ _ _ y = _
  rw [savedLoad_unread, View.readAt_eq_ld, View.readAt_eq_ld, h9.read_unread, h10.read_unread]
  exact (applyBlock16_at (savedAt s5 k) s3 s4 j y).symm

/-- Each of the three numbers lies inside the array of the three. -/
theorem word_inb (k : Fin 3) : ∀ a, (![k.val] : Fin 1 → ℕ) a + S1.size a ≤ S3.size a := by
  revert k; decide

/-- A load of one of the three numbers which the kernel is given. -/
def word (k : Fin 3) : F .f32 :=
  (m1.access (Rect.unit (s := S3) ![k.val] S1.size (word_inb k))).read (Elt F) (h1.unread x0) (Shape.Idx.first (numel1_S1.symm ▸ Nat.one_pos))

/-- A load of one of the three numbers gives it. -/
theorem word_eq (k : Fin 3) : word m1 h1 x0 k = x0 (ix1 k) := by
  refine (Memref.IsWhole.readAt_unread h1 x0 (Rect.unit (s := S3) ![k.val] S1.size (word_inb k)).toLoadRect
    (Shape.Idx.first (numel1_S1.symm ▸ Nat.one_pos))).trans (congrArg x0 (funext fun a => Fin.ext ?_))
  match a with
  | ⟨0, _⟩ =>
    show k.val + 1 * (Shape.Idx.first (s := S1) (numel1_S1.symm ▸ Nat.one_pos) 0).val = k.val
    have : (Shape.Idx.first (s := S1) (numel1_S1.symm ▸ Nat.one_pos) 0).val < 1 := (Shape.Idx.first (s := S1) _ 0).isLt
    omega

/-- The stores of the eight matrices. -/
theorem weight_read (f : m8.view.ty.Contents (Elt F)) :
    m8.view.read (Elt F) (m8.view.writes (Elt F) f (slices.map fun k => ⟨slabR k,
      weightMat (word m1 h1 x0 0) (word m1 h1 x0 2) (m7.view.readAt (Elt F) (rowR k).toLoadRect (h7.unread s1))
        (m6.view.readAt (Elt F) (slabR k).toLoadRect (h6.unread s0)) (m3.view.readAt (Elt F) (rowR k).toLoadRect (h3.unread w))⟩))
      = weightBlock (x0 (ix1 0)) (x0 (ix1 2)) s1 s0 w := by
  refine read_slices _ _ _ _ (fun k y => ?_) slabR_cover
  simp only [View.readAt_eq_ld, h3.read_unread, h6.read_unread, h7.read_unread, word_eq]
  exact (weightBlock_at (x0 (ix1 0)) (x0 (ix1 2)) s1 s0 w k y).symm

/-- The stores of the eight matrices in the shorter format. -/
theorem weight16_read (f : m9.view.ty.Contents (Elt F)) :
    m9.view.read (Elt F) (m9.view.writes (Elt F) f (slices.map fun k => ⟨slabR k,
      weightMat16 (word m1 h1 x0 0) (word m1 h1 x0 2) (m7.view.readAt (Elt F) (rowR k).toLoadRect (h7.unread s1))
        (m6.view.readAt (Elt F) (slabR k).toLoadRect (h6.unread s0)) (m3.view.readAt (Elt F) (rowR k).toLoadRect (h3.unread w))⟩))
      = weightBlock16 (x0 (ix1 0)) (x0 (ix1 2)) s1 s0 w := by
  refine read_slices _ _ _ _ (fun k y => ?_) slabR_cover
  simp only [View.readAt_eq_ld, h3.read_unread, h6.read_unread, h7.read_unread, word_eq]
  exact (weightBlock16_at (x0 (ix1 0)) (x0 (ix1 2)) s1 s0 w k y).symm

/-- The stores of the eight rows which are added at the end. -/
theorem bias_read (f : m10.view.ty.Contents (Elt F)) :
    m10.view.read (Elt F) (m10.view.writes (Elt F) f (slices.map fun k => ⟨rowR k,
      biasRow (word m1 h1 x0 1) (word m1 h1 x0 2) (m7.view.readAt (Elt F) (rowR k).toLoadRect (h7.unread s1))
        (m6.view.readAt (Elt F) (slabR k).toLoadRect (h6.unread s0)) (m3.view.readAt (Elt F) (rowR k).toLoadRect (h3.unread w))
        (m4.view.readAt (Elt F) (rowR k).toLoadRect (h4.unread b))⟩))
      = biasBlock (x0 (ix1 1)) (x0 (ix1 2)) s1 s0 w b := by
  refine read_slices _ _ _ _ (fun k y => ?_) rowR_cover
  simp only [View.readAt_eq_ld, h3.read_unread, h4.read_unread, h6.read_unread, h7.read_unread, word_eq]
  exact (biasBlock_at (x0 (ix1 1)) (x0 (ix1 2)) s1 s0 w b k y).symm

end Cert.KernelIdeal.Body

end
-- ==== Proof.Body.First.lean ====
module

public import proofs.«01_k».proof.Proof.Body.Basic
public import proofs.«01_k».proof.Proof.Body.ReadBack

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .smem S3 .f32) (harg1 : arg1.IsWhole) (arg2 : Memref sig .tc .vmem S1024x2048 .f32) (harg2 : arg2.IsWhole)
  (arg3 : Memref sig .tc .vmem S8x1x256 .f32) (harg3 : arg3.IsWhole) (arg4 : Memref sig .tc .vmem S8x1x256 .f32) (harg4 : arg4.IsWhole)
  (arg5 : Memref sig .tc .vmem S1024x2048 .f32) (harg5 : arg5.IsWhole) (arg6 : Memref sig .tc .vmem S8x256x256 .f32) (harg6 : arg6.IsWhole)
  (arg7 : Memref sig .tc .vmem S8x1x256 .f32) (harg7 : arg7.IsWhole) (arg8 : Memref sig .tc .vmem S8x256x256 .f32) (harg8 : arg8.IsWhole)
  (arg9 : Memref sig .tc .vmem S8x256x256 .bf16) (harg9 : arg9.IsWhole) (arg10 : Memref sig .tc .vmem S8x1x256 .f32) (harg10 : arg10.IsWhole)
  (arg11 : Memref sig .tc .vmem S4x1024x2048 .bf16) (harg11 : arg11.IsWhole)
  (x0 : Vec F S3 .f32) (x1 : Vec F S1024x2048 .f32) (x2 x3 : Vec F S8x1x256 .f32) (o : Vec F S1024x2048 .f32)
  (s0 : Vec F S8x256x256 .f32) (s1 : Vec F S8x1x256 .f32) (s2 : Vec F S8x256x256 .f32)
  (s3 : Vec F S8x256x256 .bf16) (s4 : Vec F S8x1x256 .f32) (s5 : Vec F S4x1024x2048 .bf16)

set_option maxHeartbeats 1244000 in
/-- The first position: the sums start at zero and the first block's sums are added. -/
theorem run_first (hT : Taken true true false false false false false false false false false false i)
    (E : Set ℕ) (K : PUnit → sProp 𝕄) :
    iprop(Held c arg1 arg2 arg3 arg4 arg5 arg6 arg7 arg8 arg9 arg10 arg11 x0 x1 x2 x3 o s0 s1 s2 s3 s4 s5
      ∗ (Held c arg1 arg2 arg3 arg4 arg5 arg6 arg7 arg8 arg9 arg10 arg11 x0 x1 x2 x3 o (squaresBlock x1 zeroSlabs) (rowsBlock x1 zeroRows) s2 s3 s4 s5 -∗ K ⟨⟩))
    ⊢ wp frame (wpE (defs₀ (F := F)) Variants.none c none) E (cc0_sw_fused i arg1 harg1 arg2 harg2 arg3 harg3 arg4 harg4 arg5 harg5 arg6 harg6 arg7 harg7 arg8 harg8 arg9 harg9 arg10 harg10 arg11 harg11) K := by
  obtain ⟨hc0, hc1, hc2, hc3, hc4, hc5, hc6, hc7, hc8, hc9, hc10, hc11⟩ := hT
  simp only [Bool.false_eq_true, iff_false, iff_true] at hc0 hc1 hc2 hc3 hc4 hc5 hc6 hc7 hc8 hc9 hc10 hc11
  simp only [cc0_sw_fused_eq_skeleton]; unfold cc0_sw_fused_skel
  simp only [k0_part37_eq_skeleton, k0_part1_eq_skeleton, k0_part2_eq_skeleton, k0_part3_eq_skeleton, k0_part4_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg1.eq_unread hf0; obtain rfl := harg2.eq_unread hf1; obtain rfl := harg3.eq_unread hf2; obtain rfl := harg4.eq_unread hf3
  obtain rfl := harg5.eq_unread hf4
  obtain rfl := harg6.eq_unread hfs0; obtain rfl := harg7.eq_unread hfs1; obtain rfl := harg8.eq_unread hfs2
  obtain rfl := harg9.eq_unread hfs3; obtain rfl := harg10.eq_unread hfs4; obtain rfl := harg11.eq_unread hfs5
  (set_option sl_exec.stopBefore "k0_part1" in
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11))
  ihave HG0 : iprop(∃ f, ⌜arg6.view.read (Elt F) f = zeroSlabs⌝ ∗ (arg6.view.loc (c : Thread nD τ) ↦[arg6.view.set]{fullShare} f)) $$ [HS0]
  · iexists _; isplitr; swap; · iexact HS0
    ipureintro
    exact whole_read inb_S8x256x256_S8x256x256_0_0_0 arg6.view _ zeroSlabs
  ihave HG1 : iprop(∃ f, ⌜arg7.view.read (Elt F) f = zeroRows⌝ ∗ (arg7.view.loc (c : Thread nD τ) ↦[arg7.view.set]{fullShare} f)) $$ [HS1]
  · iexists _; isplitr; swap; · iexact HS1
    ipureintro
    exact whole_read inb_S8x1x256_S8x1x256_0_0_0 arg7.view _ zeroRows
  icases HG0 with ⟨%g0, %hg0, HS0⟩
  icases HG1 with ⟨%g1, %hg1, HS1⟩
  obtain rfl := harg6.eq_unread hg0
  obtain rfl := harg7.eq_unread hg1
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    exact squares_read arg2 harg2 x1 arg6 harg6 zeroSlabs _
  isplitl [HS1]
  · iexists _; isplitr; swap; · iexact HS1
    ipureintro
    exact rows_read arg2 harg2 x1 arg7 harg7 zeroRows _
  isplitl [HS2]
  · iexists _; isplitr; · ipureintro; exact harg8.read_unread _
    iexact HS2
  isplitl [HS3]
  · iexists _; isplitr; · ipureintro; exact harg9.read_unread _
    iexact HS3
  isplitl [HS4]
  · iexists _; isplitr; · ipureintro; exact harg10.read_unread _
    iexact HS4
  · iexists _; isplitr; · ipureintro; exact harg11.read_unread _
    iexact HS5

end Cert.KernelIdeal.Body

end
-- ==== Proof.Body.Stats.lean ====
module

public import proofs.«01_k».proof.Proof.Body.Basic
public import proofs.«01_k».proof.Proof.Body.ReadBack

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .smem S3 .f32) (harg1 : arg1.IsWhole) (arg2 : Memref sig .tc .vmem S1024x2048 .f32) (harg2 : arg2.IsWhole)
  (arg3 : Memref sig .tc .vmem S8x1x256 .f32) (harg3 : arg3.IsWhole) (arg4 : Memref sig .tc .vmem S8x1x256 .f32) (harg4 : arg4.IsWhole)
  (arg5 : Memref sig .tc .vmem S1024x2048 .f32) (harg5 : arg5.IsWhole) (arg6 : Memref sig .tc .vmem S8x256x256 .f32) (harg6 : arg6.IsWhole)
  (arg7 : Memref sig .tc .vmem S8x1x256 .f32) (harg7 : arg7.IsWhole) (arg8 : Memref sig .tc .vmem S8x256x256 .f32) (harg8 : arg8.IsWhole)
  (arg9 : Memref sig .tc .vmem S8x256x256 .bf16) (harg9 : arg9.IsWhole) (arg10 : Memref sig .tc .vmem S8x1x256 .f32) (harg10 : arg10.IsWhole)
  (arg11 : Memref sig .tc .vmem S4x1024x2048 .bf16) (harg11 : arg11.IsWhole)
  (x0 : Vec F S3 .f32) (x1 : Vec F S1024x2048 .f32) (x2 x3 : Vec F S8x1x256 .f32) (o : Vec F S1024x2048 .f32)
  (s0 : Vec F S8x256x256 .f32) (s1 : Vec F S8x1x256 .f32) (s2 : Vec F S8x256x256 .f32)
  (s3 : Vec F S8x256x256 .bf16) (s4 : Vec F S8x1x256 .f32) (s5 : Vec F S4x1024x2048 .bf16)

set_option maxHeartbeats 1244000 in
/-- A position which only gathers sums. -/
theorem run_stats (hT : Taken false true false false false false false false false false false false i)
    (E : Set ℕ) (K : PUnit → sProp 𝕄) :
    iprop(Held c arg1 arg2 arg3 arg4 arg5 arg6 arg7 arg8 arg9 arg10 arg11 x0 x1 x2 x3 o s0 s1 s2 s3 s4 s5
      ∗ (Held c arg1 arg2 arg3 arg4 arg5 arg6 arg7 arg8 arg9 arg10 arg11 x0 x1 x2 x3 o (squaresBlock x1 s0) (rowsBlock x1 s1) s2 s3 s4 s5 -∗ K ⟨⟩))
    ⊢ wp frame (wpE (defs₀ (F := F)) Variants.none c none) E (cc0_sw_fused i arg1 harg1 arg2 harg2 arg3 harg3 arg4 harg4 arg5 harg5 arg6 harg6 arg7 harg7 arg8 harg8 arg9 harg9 arg10 harg10 arg11 harg11) K := by
  obtain ⟨hc0, hc1, hc2, hc3, hc4, hc5, hc6, hc7, hc8, hc9, hc10, hc11⟩ := hT
  simp only [Bool.false_eq_true, iff_false, iff_true] at hc0 hc1 hc2 hc3 hc4 hc5 hc6 hc7 hc8 hc9 hc10 hc11
  simp only [cc0_sw_fused_eq_skeleton]; unfold cc0_sw_fused_skel
  simp only [k0_part37_eq_skeleton, k0_part1_eq_skeleton, k0_part2_eq_skeleton, k0_part3_eq_skeleton, k0_part4_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg1.eq_unread hf0; obtain rfl := harg2.eq_unread hf1; obtain rfl := harg3.eq_unread hf2; obtain rfl := harg4.eq_unread hf3
  obtain rfl := harg5.eq_unread hf4
  obtain rfl := harg6.eq_unread hfs0; obtain rfl := harg7.eq_unread hfs1; obtain rfl := harg8.eq_unread hfs2
  obtain rfl := harg9.eq_unread hfs3; obtain rfl := harg10.eq_unread hfs4; obtain rfl := harg11.eq_unread hfs5
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    exact squares_read arg2 harg2 x1 arg6 harg6 s0 _
  isplitl [HS1]
  · iexists _; isplitr; swap; · iexact HS1
    ipureintro
    exact rows_read arg2 harg2 x1 arg7 harg7 s1 _
  isplitl [HS2]
  · iexists _; isplitr; · ipureintro; exact harg8.read_unread _
    iexact HS2
  isplitl [HS3]
  · iexists _; isplitr; · ipureintro; exact harg9.read_unread _
    iexact HS3
  isplitl [HS4]
  · iexists _; isplitr; · ipureintro; exact harg10.read_unread _
    iexact HS4
  · iexists _; isplitr; · ipureintro; exact harg11.read_unread _
    iexact HS5

end Cert.KernelIdeal.Body

end
-- ==== Proof.Body.Save.lean ====
module

public import proofs.«01_k».proof.Proof.Body.Basic
public import proofs.«01_k».proof.Proof.Body.ReadBack

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .smem S3 .f32) (harg1 : arg1.IsWhole) (arg2 : Memref sig .tc .vmem S1024x2048 .f32) (harg2 : arg2.IsWhole)
  (arg3 : Memref sig .tc .vmem S8x1x256 .f32) (harg3 : arg3.IsWhole) (arg4 : Memref sig .tc .vmem S8x1x256 .f32) (harg4 : arg4.IsWhole)
  (arg5 : Memref sig .tc .vmem S1024x2048 .f32) (harg5 : arg5.IsWhole) (arg6 : Memref sig .tc .vmem S8x256x256 .f32) (harg6 : arg6.IsWhole)
  (arg7 : Memref sig .tc .vmem S8x1x256 .f32) (harg7 : arg7.IsWhole) (arg8 : Memref sig .tc .vmem S8x256x256 .f32) (harg8 : arg8.IsWhole)
  (arg9 : Memref sig .tc .vmem S8x256x256 .bf16) (harg9 : arg9.IsWhole) (arg10 : Memref sig .tc .vmem S8x1x256 .f32) (harg10 : arg10.IsWhole)
  (arg11 : Memref sig .tc .vmem S4x1024x2048 .bf16) (harg11 : arg11.IsWhole)
  (x0 : Vec F S3 .f32) (x1 : Vec F S1024x2048 .f32) (x2 x3 : Vec F S8x1x256 .f32) (o : Vec F S1024x2048 .f32)
  (s0 : Vec F S8x256x256 .f32) (s1 : Vec F S8x1x256 .f32) (s2 : Vec F S8x256x256 .f32)
  (s3 : Vec F S8x256x256 .bf16) (s4 : Vec F S8x1x256 .f32) (s5 : Vec F S4x1024x2048 .bf16)

set_option maxHeartbeats 8000000 in
/-- A position which gathers sums and keeps its block of rows in the shorter format. -/
theorem run_save (k : Fin 4) (hT : Taken false true (k == 0) (k == 1) (k == 2) (k == 3) false false false false false false i)
    (E : Set ℕ) (K : PUnit → sProp 𝕄) :
    iprop(Held c arg1 arg2 arg3 arg4 arg5 arg6 arg7 arg8 arg9 arg10 arg11 x0 x1 x2 x3 o s0 s1 s2 s3 s4 s5
      ∗ (Held c arg1 arg2 arg3 arg4 arg5 arg6 arg7 arg8 arg9 arg10 arg11 x0 x1 x2 x3 o (squaresBlock x1 s0) (rowsBlock x1 s1) s2 s3 s4 (saveBlock x1 k s5) -∗ K ⟨⟩))
    ⊢ wp frame (wpE (defs₀ (F := F)) Variants.none c none) E (cc0_sw_fused i arg1 harg1 arg2 harg2 arg3 harg3 arg4 harg4 arg5 harg5 arg6 harg6 arg7 harg7 arg8 harg8 arg9 harg9 arg10 harg10 arg11 harg11) K := by
  obtain ⟨hc0, hc1, hc2, hc3, hc4, hc5, hc6, hc7, hc8, hc9, hc10, hc11⟩ := hT
  have hread := save_read arg2 harg2 x1 arg11 harg11 s5 k
  have hk : k = 0 ∨ k = 1 ∨ k = 2 ∨ k = 3 := by omega
  rcases hk with rfl | rfl | rfl | rfl
  all_goals
    simp at hc0 hc1 hc2 hc3 hc4 hc5 hc6 hc7 hc8 hc9 hc10 hc11
    simp only [cc0_sw_fused_eq_skeleton]; unfold cc0_sw_fused_skel
    simp only [k0_part37_eq_skeleton, k0_part1_eq_skeleton, k0_part2_eq_skeleton, k0_part3_eq_skeleton, k0_part4_eq_skeleton]
    unfold Held owns
    iintro ⟨⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
    obtain rfl := harg1.eq_unread hf0; obtain rfl := harg2.eq_unread hf1; obtain rfl := harg3.eq_unread hf2; obtain rfl := harg4.eq_unread hf3
    obtain rfl := harg5.eq_unread hf4
    obtain rfl := harg6.eq_unread hfs0; obtain rfl := harg7.eq_unread hfs1; obtain rfl := harg8.eq_unread hfs2
    obtain rfl := harg9.eq_unread hfs3; obtain rfl := harg10.eq_unread hfs4; obtain rfl := harg11.eq_unread hfs5
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; isplitr; swap; · iexact HS0
      ipureintro
      exact squares_read arg2 harg2 x1 arg6 harg6 s0 _
    isplitl [HS1]
    · iexists _; isplitr; swap; · iexact HS1
      ipureintro
      exact rows_read arg2 harg2 x1 arg7 harg7 s1 _
    isplitl [HS2]
    · iexists _; isplitr; · ipureintro; exact harg8.read_unread _
      iexact HS2
    isplitl [HS3]
    · iexists _; isplitr; · ipureintro; exact harg9.read_unread _
      iexact HS3
    isplitl [HS4]
    · iexists _; isplitr; · ipureintro; exact harg10.read_unread _
      iexact HS4
    · iexists _; isplitr; swap; · iexact HS5
      ipureintro
      exact hread

end Cert.KernelIdeal.Body

end
-- ==== Proof.Body.Whiten.lean ====
module

public import proofs.«01_k».proof.Proof.Body.Basic
public import proofs.«01_k».proof.Proof.Body.ReadBack

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .smem S3 .f32) (harg1 : arg1.IsWhole) (arg2 : Memref sig .tc .vmem S1024x2048 .f32) (harg2 : arg2.IsWhole)
  (arg3 : Memref sig .tc .vmem S8x1x256 .f32) (harg3 : arg3.IsWhole) (arg4 : Memref sig .tc .vmem S8x1x256 .f32) (harg4 : arg4.IsWhole)
  (arg5 : Memref sig .tc .vmem S1024x2048 .f32) (harg5 : arg5.IsWhole) (arg6 : Memref sig .tc .vmem S8x256x256 .f32) (harg6 : arg6.IsWhole)
  (arg7 : Memref sig .tc .vmem S8x1x256 .f32) (harg7 : arg7.IsWhole) (arg8 : Memref sig .tc .vmem S8x256x256 .f32) (harg8 : arg8.IsWhole)
  (arg9 : Memref sig .tc .vmem S8x256x256 .bf16) (harg9 : arg9.IsWhole) (arg10 : Memref sig .tc .vmem S8x1x256 .f32) (harg10 : arg10.IsWhole)
  (arg11 : Memref sig .tc .vmem S4x1024x2048 .bf16) (harg11 : arg11.IsWhole)
  (x0 : Vec F S3 .f32) (x1 : Vec F S1024x2048 .f32) (x2 x3 : Vec F S8x1x256 .f32) (o : Vec F S1024x2048 .f32)
  (s0 : Vec F S8x256x256 .f32) (s1 : Vec F S8x1x256 .f32) (s2 : Vec F S8x256x256 .f32)
  (s3 : Vec F S8x256x256 .bf16) (s4 : Vec F S8x1x256 .f32) (s5 : Vec F S4x1024x2048 .bf16)

set_option maxHeartbeats 8000000 in
/-- The last gathering position: the last block's sums are added, then every slice's matrix and row are prepared. -/
theorem run_whiten (hT : Taken false true false false false false true false false false false false i)
    (E : Set ℕ) (K : PUnit → sProp 𝕄) :
    iprop(Held c arg1 arg2 arg3 arg4 arg5 arg6 arg7 arg8 arg9 arg10 arg11 x0 x1 x2 x3 o s0 s1 s2 s3 s4 s5
      ∗ (Held c arg1 arg2 arg3 arg4 arg5 arg6 arg7 arg8 arg9 arg10 arg11 x0 x1 x2 x3 o (squaresBlock x1 s0) (rowsBlock x1 s1)
        (weightBlock (x0 (ix1 0)) (x0 (ix1 2)) (rowsBlock x1 s1) (squaresBlock x1 s0) x2)
        (weightBlock16 (x0 (ix1 0)) (x0 (ix1 2)) (rowsBlock x1 s1) (squaresBlock x1 s0) x2)
        (biasBlock (x0 (ix1 1)) (x0 (ix1 2)) (rowsBlock x1 s1) (squaresBlock x1 s0) x2 x3) s5 -∗ K ⟨⟩))
    ⊢ wp frame (wpE (defs₀ (F := F)) Variants.none c none) E (cc0_sw_fused i arg1 harg1 arg2 harg2 arg3 harg3 arg4 harg4 arg5 harg5 arg6 harg6 arg7 harg7 arg8 harg8 arg9 harg9 arg10 harg10 arg11 harg11) K := by
  obtain ⟨hc0, hc1, hc2, hc3, hc4, hc5, hc6, hc7, hc8, hc9, hc10, hc11⟩ := hT
  simp only [Bool.false_eq_true, iff_false, iff_true] at hc0 hc1 hc2 hc3 hc4 hc5 hc6 hc7 hc8 hc9 hc10 hc11
  simp only [cc0_sw_fused_eq_skeleton]; unfold cc0_sw_fused_skel
  simp only [k0_part37_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg1.eq_unread hf0; obtain rfl := harg2.eq_unread hf1; obtain rfl := harg3.eq_unread hf2; obtain rfl := harg4.eq_unread hf3
  obtain rfl := harg5.eq_unread hf4
  obtain rfl := harg6.eq_unread hfs0; obtain rfl := harg7.eq_unread hfs1; obtain rfl := harg8.eq_unread hfs2
  obtain rfl := harg9.eq_unread hfs3; obtain rfl := harg10.eq_unread hfs4; obtain rfl := harg11.eq_unread hfs5
  (set_option sl_exec.stopBefore "k0_part5" in
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11))
  ihave HG0 : iprop(∃ f, ⌜arg6.view.read (Elt F) f = squaresBlock x1 s0⌝ ∗ (arg6.view.loc (c : Thread nD τ) ↦[arg6.view.set]{fullShare} f)) $$ [HS0]
  · iexists _; isplitr; swap; · iexact HS0
    ipureintro
    exact squares_read arg2 harg2 x1 arg6 harg6 s0 _
  ihave HG1 : iprop(∃ f, ⌜arg7.view.read (Elt F) f = rowsBlock x1 s1⌝ ∗ (arg7.view.loc (c : Thread nD τ) ↦[arg7.view.set]{fullShare} f)) $$ [HS1]
  · iexists _; isplitr; swap; · iexact HS1
    ipureintro
    exact rows_read arg2 harg2 x1 arg7 harg7 s1 _
  icases HG0 with ⟨%g0, %hg0, HS0⟩
  icases HG1 with ⟨%g1, %hg1, HS1⟩
  obtain rfl := harg6.eq_unread hg0
  obtain rfl := harg7.eq_unread hg1
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; · ipureintro; exact harg6.read_unread _
    iexact HS0
  isplitl [HS1]
  · iexists _; isplitr; · ipureintro; exact harg7.read_unread _
    iexact HS1
  isplitl [HS2]
  · iexists _; isplitr; swap; · iexact HS2
    ipureintro
    exact weight_read arg1 harg1 x0 arg3 harg3 x2 arg6 harg6 (squaresBlock x1 s0) arg7 harg7 (rowsBlock x1 s1) arg8 _
  isplitl [HS3]
  · iexists _; isplitr; swap; · iexact HS3
    ipureintro
    exact weight16_read arg1 harg1 x0 arg3 harg3 x2 arg6 harg6 (squaresBlock x1 s0) arg7 harg7 (rowsBlock x1 s1) arg9 _
  isplitl [HS4]
  · iexists _; isplitr; swap; · iexact HS4
    ipureintro
    exact bias_read arg1 harg1 x0 arg3 harg3 x2 arg4 harg4 x3 arg6 harg6 (squaresBlock x1 s0) arg7 harg7 (rowsBlock x1 s1) arg10 _
  · iexists _; isplitr; · ipureintro; exact harg11.read_unread _
    iexact HS5

end Cert.KernelIdeal.Body

end
-- ==== Proof.Body.Apply.lean ====
module

public import proofs.«01_k».proof.Proof.Body.Basic
public import proofs.«01_k».proof.Proof.Body.ReadBack

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .smem S3 .f32) (harg1 : arg1.IsWhole) (arg2 : Memref sig .tc .vmem S1024x2048 .f32) (harg2 : arg2.IsWhole)
  (arg3 : Memref sig .tc .vmem S8x1x256 .f32) (harg3 : arg3.IsWhole) (arg4 : Memref sig .tc .vmem S8x1x256 .f32) (harg4 : arg4.IsWhole)
  (arg5 : Memref sig .tc .vmem S1024x2048 .f32) (harg5 : arg5.IsWhole) (arg6 : Memref sig .tc .vmem S8x256x256 .f32) (harg6 : arg6.IsWhole)
  (arg7 : Memref sig .tc .vmem S8x1x256 .f32) (harg7 : arg7.IsWhole) (arg8 : Memref sig .tc .vmem S8x256x256 .f32) (harg8 : arg8.IsWhole)
  (arg9 : Memref sig .tc .vmem S8x256x256 .bf16) (harg9 : arg9.IsWhole) (arg10 : Memref sig .tc .vmem S8x1x256 .f32) (harg10 : arg10.IsWhole)
  (arg11 : Memref sig .tc .vmem S4x1024x2048 .bf16) (harg11 : arg11.IsWhole)
  (x0 : Vec F S3 .f32) (x1 : Vec F S1024x2048 .f32) (x2 x3 : Vec F S8x1x256 .f32) (o : Vec F S1024x2048 .f32)
  (s0 : Vec F S8x256x256 .f32) (s1 : Vec F S8x1x256 .f32) (s2 : Vec F S8x256x256 .f32)
  (s3 : Vec F S8x256x256 .bf16) (s4 : Vec F S8x1x256 .f32) (s5 : Vec F S4x1024x2048 .bf16)

set_option maxHeartbeats 1244000 in
/-- A position which stores a block of the result from the rows in hand: the result's buffer ends at that block, everything else is kept. -/
theorem run_apply (hT : Taken false false false false false false false true false false false false i)
    (E : Set ℕ) (K : PUnit → sProp 𝕄) :
    iprop(Held c arg1 arg2 arg3 arg4 arg5 arg6 arg7 arg8 arg9 arg10 arg11 x0 x1 x2 x3 o s0 s1 s2 s3 s4 s5
      ∗ (Held c arg1 arg2 arg3 arg4 arg5 arg6 arg7 arg8 arg9 arg10 arg11 x0 x1 x2 x3 (applyBlock x1 s2 s4) s0 s1 s2 s3 s4 s5 -∗ K ⟨⟩))
    ⊢ wp frame (wpE (defs₀ (F := F)) Variants.none c none) E (cc0_sw_fused i arg1 harg1 arg2 harg2 arg3 harg3 arg4 harg4 arg5 harg5 arg6 harg6 arg7 harg7 arg8 harg8 arg9 harg9 arg10 harg10 arg11 harg11) K := by
  obtain ⟨hc0, hc1, hc2, hc3, hc4, hc5, hc6, hc7, hc8, hc9, hc10, hc11⟩ := hT
  simp only [Bool.false_eq_true, iff_false, iff_true] at hc0 hc1 hc2 hc3 hc4 hc5 hc6 hc7 hc8 hc9 hc10 hc11
  simp only [cc0_sw_fused_eq_skeleton]; unfold cc0_sw_fused_skel
  simp only [k0_part37_eq_skeleton, k0_part22_eq_skeleton, k0_part23_eq_skeleton, k0_part24_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg1.eq_unread hf0; obtain rfl := harg2.eq_unread hf1; obtain rfl := harg3.eq_unread hf2; obtain rfl := harg4.eq_unread hf3
  obtain rfl := harg5.eq_unread hf4
  obtain rfl := harg6.eq_unread hfs0; obtain rfl := harg7.eq_unread hfs1; obtain rfl := harg8.eq_unread hfs2
  obtain rfl := harg9.eq_unread hfs3; obtain rfl := harg10.eq_unread hfs4; obtain rfl := harg11.eq_unread hfs5
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    exact apply_read arg2 harg2 x1 arg5 arg8 harg8 s2 arg10 harg10 s4 _
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  isplitl [HS3]
  · iexists _; isplitr; · ipureintro; exact harg9.read_unread _
    iexact HS3
  isplitl [HS4]
  · iexists _; isplitr; · ipureintro; exact harg10.read_unread _
    iexact HS4
  · iexists _; isplitr; · ipureintro; exact harg11.read_unread _
    iexact HS5

end Cert.KernelIdeal.Body

end
-- ==== Proof.Body.Saved.lean ====
module

public import proofs.«01_k».proof.Proof.Body.Basic
public import proofs.«01_k».proof.Proof.Body.ReadBack

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .smem S3 .f32) (harg1 : arg1.IsWhole) (arg2 : Memref sig .tc .vmem S1024x2048 .f32) (harg2 : arg2.IsWhole)
  (arg3 : Memref sig .tc .vmem S8x1x256 .f32) (harg3 : arg3.IsWhole) (arg4 : Memref sig .tc .vmem S8x1x256 .f32) (harg4 : arg4.IsWhole)
  (arg5 : Memref sig .tc .vmem S1024x2048 .f32) (harg5 : arg5.IsWhole) (arg6 : Memref sig .tc .vmem S8x256x256 .f32) (harg6 : arg6.IsWhole)
  (arg7 : Memref sig .tc .vmem S8x1x256 .f32) (harg7 : arg7.IsWhole) (arg8 : Memref sig .tc .vmem S8x256x256 .f32) (harg8 : arg8.IsWhole)
  (arg9 : Memref sig .tc .vmem S8x256x256 .bf16) (harg9 : arg9.IsWhole) (arg10 : Memref sig .tc .vmem S8x1x256 .f32) (harg10 : arg10.IsWhole)
  (arg11 : Memref sig .tc .vmem S4x1024x2048 .bf16) (harg11 : arg11.IsWhole)
  (x0 : Vec F S3 .f32) (x1 : Vec F S1024x2048 .f32) (x2 x3 : Vec F S8x1x256 .f32) (o : Vec F S1024x2048 .f32)
  (s0 : Vec F S8x256x256 .f32) (s1 : Vec F S8x1x256 .f32) (s2 : Vec F S8x256x256 .f32)
  (s3 : Vec F S8x256x256 .bf16) (s4 : Vec F S8x1x256 .f32) (s5 : Vec F S4x1024x2048 .bf16)

set_option sl_exec.squeezeSlice true in
set_option maxHeartbeats 8000000 in
/-- A position which stores a block of the result from rows kept in the shorter format. -/
theorem run_saved (k : Fin 4) (hT : Taken false false false false false false false false (k == 3) (k == 2) (k == 1) (k == 0) i)
    (E : Set ℕ) (K : PUnit → sProp 𝕄) :
    iprop(Held c arg1 arg2 arg3 arg4 arg5 arg6 arg7 arg8 arg9 arg10 arg11 x0 x1 x2 x3 o s0 s1 s2 s3 s4 s5
      ∗ (Held c arg1 arg2 arg3 arg4 arg5 arg6 arg7 arg8 arg9 arg10 arg11 x0 x1 x2 x3 (applyBlock16 (savedAt s5 k) s3 s4) s0 s1 s2 s3 s4 s5 -∗ K ⟨⟩))
    ⊢ wp frame (wpE (defs₀ (F := F)) Variants.none c none) E (cc0_sw_fused i arg1 harg1 arg2 harg2 arg3 harg3 arg4 harg4 arg5 harg5 arg6 harg6 arg7 harg7 arg8 harg8 arg9 harg9 arg10 harg10 arg11 harg11) K := by
  obtain ⟨hc0, hc1, hc2, hc3, hc4, hc5, hc6, hc7, hc8, hc9, hc10, hc11⟩ := hT
  have hread := apply16_read arg5 arg9 harg9 s3 arg10 harg10 s4 arg11 harg11 s5 k
  have hk : k = 0 ∨ k = 1 ∨ k = 2 ∨ k = 3 := by omega
  rcases hk with rfl | rfl | rfl | rfl
  all_goals
    simp at hc0 hc1 hc2 hc3 hc4 hc5 hc6 hc7 hc8 hc9 hc10 hc11
    simp only [cc0_sw_fused_eq_skeleton]; unfold cc0_sw_fused_skel
    simp only [k0_part37_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold Held owns
    iintro ⟨⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
    obtain rfl := harg1.eq_unread hf0; obtain rfl := harg2.eq_unread hf1; obtain rfl := harg3.eq_unread hf2; obtain rfl := harg4.eq_unread hf3
    obtain rfl := harg5.eq_unread hf4
    obtain rfl := harg6.eq_unread hfs0; obtain rfl := harg7.eq_unread hfs1; obtain rfl := harg8.eq_unread hfs2
    obtain rfl := harg9.eq_unread hfs3; obtain rfl := harg10.eq_unread hfs4; obtain rfl := harg11.eq_unread hfs5
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact hread _
    isplitl [HS0]
    · iexists _; isplitr; · ipureintro; exact harg6.read_unread _
      iexact HS0
    isplitl [HS1]
    · iexists _; isplitr; · ipureintro; exact harg7.read_unread _
      iexact HS1
    isplitl [HS2]
    · iexists _; isplitr; · ipureintro; exact harg8.read_unread _
      iexact HS2
    isplitl [HS3]
    · iexists _; isplitr; · ipureintro; exact harg9.read_unread _
      iexact HS3
    isplitl [HS4]
    · iexists _; isplitr; · ipureintro; exact harg10.read_unread _
      iexact HS4
    · iexists _; isplitr; · ipureintro; exact harg11.read_unread _
      iexact HS5

end Cert.KernelIdeal.Body

end
-- ==== Proof.Sweep.Points.lean ====
module

public import proofs.«01_k».proof.Proof.Body.Basic

@[expose] public section

set_option maxRecDepth 16384

noncomputable section

namespace Cert.KernelIdeal.Sweep

open Cert.KernelIdeal.Gen Cert.KernelIdeal.Body
open Idealize.ShloMosaic

/-! # Which branches the body takes at each of the 32 grid positions -/

/-- Each of the twelve conditions, as a comparison of the grid position's number. -/
theorem taken (t : Fin cfg0.N) :
    Taken (decide (t.val = 0)) (decide (t.val < 16)) (decide (t.val = 11)) (decide (t.val = 12)) (decide (t.val = 13))
      (decide (t.val = 14)) (decide (t.val = 15)) (decide (t.val = 16 ∨ 21 ≤ t.val)) (decide (t.val = 17))
      (decide (t.val = 18)) (decide (t.val = 19)) (decide (t.val = 20)) (grid0.coords t) where
  h0 := (by decide +kernel : ∀ t : Fin grid0.N, isAt 0#32 (grid0.coords t) ↔ decide (t.val = 0) = true) t
  h1 := (by decide +kernel : ∀ t : Fin grid0.N, isBelow 16#32 (grid0.coords t) ↔ decide (t.val < 16) = true) t
  h2 := (by decide +kernel : ∀ t : Fin grid0.N, isAt 11#32 (grid0.coords t) ↔ decide (t.val = 11) = true) t
  h3 := (by decide +kernel : ∀ t : Fin grid0.N, isAt 12#32 (grid0.coords t) ↔ decide (t.val = 12) = true) t
  h4 := (by decide +kernel : ∀ t : Fin grid0.N, isAt 13#32 (grid0.coords t) ↔ decide (t.val = 13) = true) t
  h5 := (by decide +kernel : ∀ t : Fin grid0.N, isAt 14#32 (grid0.coords t) ↔ decide (t.val = 14) = true) t
  h6 := (by decide +kernel : ∀ t : Fin grid0.N, isAt 15#32 (grid0.coords t) ↔ decide (t.val = 15) = true) t
  h7 := (by decide +kernel : ∀ t : Fin grid0.N, k0_cond8 (grid0.coords t) = 1#1 ↔ decide (t.val = 16 ∨ 21 ≤ t.val) = true) t
  h8 := (by decide +kernel : ∀ t : Fin grid0.N, k0_cond9 (grid0.coords t) = 1#1 ↔ decide (t.val = 17) = true) t
  h9 := (by decide +kernel : ∀ t : Fin grid0.N, k0_cond10 (grid0.coords t) = 1#1 ↔ decide (t.val = 18) = true) t
  h10 := (by decide +kernel : ∀ t : Fin grid0.N, k0_cond11 (grid0.coords t) = 1#1 ↔ decide (t.val = 19) = true) t
  h11 := (by decide +kernel : ∀ t : Fin grid0.N, k0_cond12 (grid0.coords t) = 1#1 ↔ decide (t.val = 20) = true) t

/-- The same, against any twelve truth values that agree with the comparisons. -/
theorem taken_of (t : Fin cfg0.N) {b0 b1 b2 b3 b4 b5 b6 b7 b8 b9 b10 b11 : Bool}
    (h0 : b0 = true ↔ t.val = 0) (h1 : b1 = true ↔ t.val < 16) (h2 : b2 = true ↔ t.val = 11) (h3 : b3 = true ↔ t.val = 12)
    (h4 : b4 = true ↔ t.val = 13) (h5 : b5 = true ↔ t.val = 14) (h6 : b6 = true ↔ t.val = 15)
    (h7 : b7 = true ↔ (t.val = 16 ∨ 21 ≤ t.val)) (h8 : b8 = true ↔ t.val = 17) (h9 : b9 = true ↔ t.val = 18)
    (h10 : b10 = true ↔ t.val = 19) (h11 : b11 = true ↔ t.val = 20) :
    Taken b0 b1 b2 b3 b4 b5 b6 b7 b8 b9 b10 b11 (grid0.coords t) := by
  obtain ⟨g0, g1, g2, g3, g4, g5, g6, g7, g8, g9, g10, g11⟩ := taken t
  simp only [decide_eq_true_eq] at g0 g1 g2 g3 g4 g5 g6 g7 g8 g9 g10 g11
  exact ⟨g0.trans h0.symm, g1.trans h1.symm, g2.trans h2.symm, g3.trans h3.symm, g4.trans h4.symm, g5.trans h5.symm,
    g6.trans h6.symm, g7.trans h7.symm, g8.trans h8.symm, g9.trans h9.symm, g10.trans h10.symm, g11.trans h11.symm⟩

/-- The first position. -/
theorem taken_first (t : Fin cfg0.N) (h : t.val = 0) :
    Taken true true false false false false false false false false false false (grid0.coords t) := by
  apply taken_of <;> simp <;> omega

/-- A position that only gathers. -/
theorem taken_stats (t : Fin cfg0.N) (h : 0 < t.val) (h' : t.val < 11) :
    Taken false true false false false false false false false false false false (grid0.coords t) := by
  apply taken_of <;> simp <;> omega

/-- A position that gathers and keeps its block. -/
theorem taken_save (t : Fin cfg0.N) (k : Fin 4) (h : t.val = 11 + k.val) :
    Taken false true (k == 0) (k == 1) (k == 2) (k == 3) false false false false false false (grid0.coords t) := by
  have hk : k = 0 ∨ k = 1 ∨ k = 2 ∨ k = 3 := by omega
  rcases hk with rfl | rfl | rfl | rfl
  all_goals (simp at h; apply taken_of <;> simp <;> omega)

/-- The position that gathers the last block and then prepares the weights. -/
theorem taken_whiten (t : Fin cfg0.N) (h : t.val = 15) :
    Taken false true false false false false true false false false false false (grid0.coords t) := by
  apply taken_of <;> simp <;> omega

/-- A position that applies the weights to the block it is given. -/
theorem taken_apply (t : Fin cfg0.N) (h : t.val = 16 ∨ 21 ≤ t.val) :
    Taken false false false false false false false true false false false false (grid0.coords t) := by
  apply taken_of <;> simp <;> omega

/-- A position that applies the weights to a kept block. -/
theorem taken_saved (t : Fin cfg0.N) (k : Fin 4) (h : t.val + k.val = 20) :
    Taken false false false false false false false false (k == 3) (k == 2) (k == 1) (k == 0) (grid0.coords t) := by
  have hk : k = 0 ∨ k = 1 ∨ k = 2 ∨ k = 3 := by omega
  rcases hk with rfl | rfl | rfl | rfl
  all_goals (simp at h; apply taken_of <;> simp <;> omega)

/-! ## When the result's staging buffer is left alone -/

/-- The first half stores nothing into the result's buffer, -/
theorem idle_early (t : Fin cfg0.N) (h : t.val < 16) : cfg0.idle 4 (grid0.coords t) = true :=
  (by decide +kernel : ∀ t : Fin grid0.N, t.val < 16 → idle0 4 (grid0.coords t) = true) t h

/-- the second half does. -/
theorem idle_late (t : Fin cfg0.N) (h : 16 ≤ t.val) : cfg0.idle 4 (grid0.coords t) = false :=
  (by decide +kernel : ∀ t : Fin grid0.N, 16 ≤ t.val → idle0 4 (grid0.coords t) = false) t h

/-- The first half's buffer is not copied out. -/
theorem flush_early (t : Fin cfg0.N) (h : t.val < 16) : (cfg0.win 4).flush t = false :=
  (by decide +kernel : ∀ t : Fin grid0.N, t.val < 16 → win0_4.flush t = false) t h

end Cert.KernelIdeal.Sweep

end
-- ==== Proof.Sweep.Contents.lean ====
module

public import proofs.«01_k».proof.Proof.Body.Blocks

@[expose] public section

set_option maxRecDepth 16384

noncomputable section

namespace Cert.KernelIdeal.Sweep

open Cert.KernelIdeal.Gen Cert.KernelIdeal.Body
open Idealize.ShloMosaic Idealize.ShloMosaic.TcCoe

variable {F : FTy → Type} [FloatOps F]

variable (m : (ℓ : Loc nD τ sig) → Buf (Elt F) ℓ) (c : Dev nD)

/-! # What the kernel's buffers hold between grid positions, in closed form -/

/-- The sums of products after the first `n` blocks of rows. -/
def sq : (n : ℕ) → n ≤ cfg0.N → Vec F S8x256x256 .f32
  | 0, _ => zeroSlabs
  | n + 1, h => squaresBlock (iblk m c 1 ⟨n, h⟩) (sq n (Nat.le_of_succ_le h))

/-- The sums of rows after the first `n` blocks of rows. -/
def rs : (n : ℕ) → n ≤ cfg0.N → Vec F S8x1x256 .f32
  | 0, _ => zeroRows
  | n + 1, h => rowsBlock (iblk m c 1 ⟨n, h⟩) (rs n (Nat.le_of_succ_le h))

/-- The position at which the weights are prepared. -/
abbrev last : Fin cfg0.N := ⟨15, by decide⟩

/-- The three numbers the kernel is given: the complement of the first mean weight, that weight, and the first
    variance weight. -/
def scal : Vec F S3 .f32 := iblk m c 0 last

/-- The matrices every block of rows is multiplied with. -/
def wAll : Vec F S8x256x256 .f32 :=
  weightBlock (scal m c (ix1 0)) (scal m c (ix1 2)) (rs m c 16 (by decide)) (sq m c 16 (by decide)) (iblk m c 2 last)

/-- The same in the shorter format. -/
def w16All : Vec F S8x256x256 .bf16 :=
  weightBlock16 (scal m c (ix1 0)) (scal m c (ix1 2)) (rs m c 16 (by decide)) (sq m c 16 (by decide)) (iblk m c 2 last)

/-- The rows added to every row of the result. -/
def bAll : Vec F S8x1x256 .f32 :=
  biasBlock (scal m c (ix1 1)) (scal m c (ix1 2)) (rs m c 16 (by decide)) (sq m c 16 (by decide)) (iblk m c 2 last) (iblk m c 3 last)

/-- A block of rows in the shorter format. -/
def short (x : Vec F S1024x2048 .f32) : Vec F S1024x2048 .bf16 := truncf .bf16 x bitsLt_bf16_f32

/-- The block of the result stored at position `t`: of the block in hand at positions 16 and from 21 on, of block
    `31 − t`, kept in the shorter format, at positions 17 to 20. -/
def outAt (t : Fin cfg0.N) : Vec F S1024x2048 .f32 :=
  if t.val = 16 ∨ 21 ≤ t.val then applyBlock (iblk m c 1 t) (wAll m c) (bAll m c)
  else applyBlock16 (short (iblk m c 1 ⟨31 - t.val, by have : cfg0.N = 32 := N_0; omega⟩)) (w16All m c) (bAll m c)

/-- What is known of the six scratch buffers before position `n`: the sums up to there, the blocks kept so far, and
    from position 16 on the prepared weights. -/
structure Inv (n : ℕ) (s0 : Vec F S8x256x256 .f32) (s1 : Vec F S8x1x256 .f32) (s2 : Vec F S8x256x256 .f32)
    (s3 : Vec F S8x256x256 .bf16) (s4 : Vec F S8x1x256 .f32) (s5 : Vec F S4x1024x2048 .bf16) : Prop where
  sums : ∀ (h : n ≤ cfg0.N), 0 < n → n ≤ 16 → s0 = sq m c n h ∧ s1 = rs m c n h
  kept : ∀ (k : Fin 4), 12 + k.val ≤ n → savedAt s5 k = short (iblk m c 1 ⟨11 + k.val, by have : cfg0.N = 32 := N_0; omega⟩)
  ready : 16 ≤ n → s2 = wAll m c ∧ s3 = w16All m c ∧ s4 = bAll m c

variable {m c}
variable {n : ℕ} {s0 : Vec F S8x256x256 .f32} {s1 : Vec F S8x1x256 .f32} {s2 : Vec F S8x256x256 .f32}
  {s3 : Vec F S8x256x256 .bf16} {s4 : Vec F S8x1x256 .f32} {s5 : Vec F S4x1024x2048 .bf16}

/-- The block just kept, read back. -/
theorem savedAt_saveBlock_same (x : Vec F S1024x2048 .f32) (k : Fin 4) (s : Vec F S4x1024x2048 .bf16) :
    savedAt (saveBlock x k s) k = short x := by
  funext y
  unfold savedAt saveBlock short
  have e : (ix2 (y 0) (y 1) : S1024x2048.Idx) = y := funext fun a => by
    match a with
    | ⟨0, _⟩ => rfl
    | ⟨1, _⟩ => rfl
  exact (if_pos rfl).trans (congrArg (truncf .bf16 x bitsLt_bf16_f32) e)

/-- Keeping one block leaves the others. -/
theorem savedAt_saveBlock_other (x : Vec F S1024x2048 .f32) (k j : Fin 4) (h : j.val ≠ k.val) (s : Vec F S4x1024x2048 .bf16) :
    savedAt (saveBlock x k s) j = savedAt s j := by
  funext y
  unfold savedAt saveBlock
  exact if_neg h

/-- Nothing is known before the first position. -/
theorem Inv.zero : Inv m c 0 s0 s1 s2 s3 s4 s5 := ⟨fun _ h => absurd h (by omega), fun _ h => absurd h (by omega), fun h => absurd h (by omega)⟩

/-- The first position. -/
theorem Inv.first (h : 0 < cfg0.N) :
    Inv m c 1 (squaresBlock (iblk m c 1 ⟨0, h⟩) zeroSlabs) (rowsBlock (iblk m c 1 ⟨0, h⟩) zeroRows) s2 s3 s4 s5 :=
  ⟨fun _ _ _ => ⟨rfl, rfl⟩, fun _ h => absurd h (by omega), fun h => absurd h (by omega)⟩

/-- A position that only gathers. -/
theorem Inv.stats (hI : Inv m c n s0 s1 s2 s3 s4 s5) (h : n < cfg0.N) (h0 : 0 < n) (h1 : n < 11) :
    Inv m c (n + 1) (squaresBlock (iblk m c 1 ⟨n, h⟩) s0) (rowsBlock (iblk m c 1 ⟨n, h⟩) s1) s2 s3 s4 s5 := by
  obtain ⟨rfl, rfl⟩ := hI.sums h.le h0 (by omega)
  exact ⟨fun _ _ _ => ⟨rfl, rfl⟩, fun _ h => absurd h (by omega), fun h => absurd h (by omega)⟩

/-- A position that gathers and keeps its block. -/
theorem Inv.save (hI : Inv m c n s0 s1 s2 s3 s4 s5) (h : n < cfg0.N) (k : Fin 4) (hk : n = 11 + k.val) :
    Inv m c (n + 1) (squaresBlock (iblk m c 1 ⟨n, h⟩) s0) (rowsBlock (iblk m c 1 ⟨n, h⟩) s1) s2 s3 s4
      (saveBlock (iblk m c 1 ⟨n, h⟩) k s5) := by
  obtain ⟨rfl, rfl⟩ := hI.sums h.le (by omega) (by omega)
  refine ⟨fun _ _ _ => ⟨rfl, rfl⟩, fun j hj => ?_, fun h => absurd h (by omega)⟩
  by_cases hjk : j = k
  · subst hjk hk
    exact savedAt_saveBlock_same _ _ _
  · have hne : j.val ≠ k.val := fun e => hjk (Fin.ext e)
    exact (savedAt_saveBlock_other _ _ _ hne _).trans (hI.kept j (by omega))

/-- The position that prepares the weights. -/
theorem Inv.whiten (hI : Inv m c n s0 s1 s2 s3 s4 s5) (h : n < cfg0.N) (hn : n = 15) :
    Inv m c (n + 1) (squaresBlock (iblk m c 1 ⟨n, h⟩) s0) (rowsBlock (iblk m c 1 ⟨n, h⟩) s1)
      (weightBlock ((iblk m c 0 ⟨n, h⟩ : Vec F S3 .f32) (ix1 0)) ((iblk m c 0 ⟨n, h⟩ : Vec F S3 .f32) (ix1 2)) (rowsBlock (iblk m c 1 ⟨n, h⟩) s1) (squaresBlock (iblk m c 1 ⟨n, h⟩) s0) (iblk m c 2 ⟨n, h⟩))
      (weightBlock16 ((iblk m c 0 ⟨n, h⟩ : Vec F S3 .f32) (ix1 0)) ((iblk m c 0 ⟨n, h⟩ : Vec F S3 .f32) (ix1 2)) (rowsBlock (iblk m c 1 ⟨n, h⟩) s1) (squaresBlock (iblk m c 1 ⟨n, h⟩) s0) (iblk m c 2 ⟨n, h⟩))
      (biasBlock ((iblk m c 0 ⟨n, h⟩ : Vec F S3 .f32) (ix1 1)) ((iblk m c 0 ⟨n, h⟩ : Vec F S3 .f32) (ix1 2)) (rowsBlock (iblk m c 1 ⟨n, h⟩) s1) (squaresBlock (iblk m c 1 ⟨n, h⟩) s0) (iblk m c 2 ⟨n, h⟩) (iblk m c 3 ⟨n, h⟩))
      s5 := by
  obtain ⟨rfl, rfl⟩ := hI.sums h.le (by omega) (by omega)
  subst hn
  exact ⟨fun _ _ _ => ⟨rfl, rfl⟩, fun k _ => hI.kept k (by omega), fun _ => ⟨rfl, rfl, rfl⟩⟩

/-- From position 16 on the scratch buffers are only read. -/
theorem Inv.apply (hI : Inv m c n s0 s1 s2 s3 s4 s5) (hn : 16 ≤ n) : Inv m c (n + 1) s0 s1 s2 s3 s4 s5 :=
  ⟨fun _ _ h => absurd h (by omega), fun k _ => hI.kept k (by omega), fun _ => hI.ready hn⟩

/-- What is stored at a position that works on the block in hand. -/
theorem outAt_apply (t : Fin cfg0.N) (hI : Inv m c t.val s0 s1 s2 s3 s4 s5) (h : t.val = 16 ∨ 21 ≤ t.val) :
    applyBlock (iblk m c 1 t) s2 s4 = outAt m c t := by
  obtain ⟨rfl, rfl, rfl⟩ := hI.ready (by omega)
  unfold outAt; rw [if_pos h]

/-- What is stored at a position that works on a kept block. -/
theorem outAt_saved (t : Fin cfg0.N) (hI : Inv m c t.val s0 s1 s2 s3 s4 s5) (k : Fin 4) (h : t.val + k.val = 20) :
    applyBlock16 (savedAt s5 k) s3 s4 = outAt m c t := by
  obtain ⟨rfl, rfl, rfl⟩ := hI.ready (by omega)
  unfold outAt; rw [if_neg (by omega), hI.kept k (by omega)]
  have e : (⟨11 + k.val, by have : cfg0.N = 32 := N_0; omega⟩ : Fin cfg0.N) = ⟨31 - t.val, by have : cfg0.N = 32 := N_0; omega⟩ :=
    Fin.ext (by show 11 + k.val = 31 - t.val; omega)
  rw [e]

end Cert.KernelIdeal.Sweep

end
-- ==== Proof.Sweep.Run.lean ====
module

public import proofs.«01_k».proof.Proof.Body.First
public import proofs.«01_k».proof.Proof.Body.Stats
public import proofs.«01_k».proof.Proof.Body.Save
public import proofs.«01_k».proof.Proof.Body.Whiten
public import proofs.«01_k».proof.Proof.Body.Apply
public import proofs.«01_k».proof.Proof.Body.Saved
public import proofs.«01_k».proof.Proof.Sweep.Points
public import proofs.«01_k».proof.Proof.Sweep.Contents
public import Idealize.ShloMosaic.Lib.Claim

@[expose] public section

set_option maxRecDepth 16384

noncomputable section

namespace Cert.KernelIdeal.Sweep

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole sweep over the grid -/

/-! ## One position -/

/-- The buffers of the body at position `t`: the inputs' staging buffers at their blocks, the result's staging buffer
    and the six scratch buffers at the named contents. -/
def HeldAt (c : Dev nD) (t : Fin cfg0.N) (o : Vec F S1024x2048 .f32)
    (s0 : Vec F S8x256x256 .f32) (s1 : Vec F S8x1x256 .f32) (s2 : Vec F S8x256x256 .f32)
    (s3 : Vec F S8x256x256 .bf16) (s4 : Vec F S8x1x256 .f32) (s5 : Vec F S4x1024x2048 .bf16) : sProp 𝕄 :=
  Held c (win0_0.stage (cfg0.slots t 0)) (win0_1.stage (cfg0.slots t 1)) (win0_2.stage (cfg0.slots t 2))
    (win0_3.stage (cfg0.slots t 3)) (win0_4.stage (cfg0.slots t 4)) (Memref.whole cc0_scratch0) (Memref.whole cc0_scratch1)
    (Memref.whole cc0_scratch2) (Memref.whole cc0_scratch3) (Memref.whole cc0_scratch4) (Memref.whole cc0_scratch5)
    (iblk m c 0 t) (iblk m c 1 t) (iblk m c 2 t) (iblk m c 3 t) o s0 s1 s2 s3 s4 s5

/-- The body at any position: from scratch buffers as the invariant has them it leaves them as the invariant has them
    one position on; the result's staging buffer it leaves alone in the first half, and fills with `outAt` in the second. -/
theorem point (c : Dev nD) (t : Fin cfg0.N) (o : Vec F S1024x2048 .f32)
    (s0 : Vec F S8x256x256 .f32) (s1 : Vec F S8x1x256 .f32) (s2 : Vec F S8x256x256 .f32)
    (s3 : Vec F S8x256x256 .bf16) (s4 : Vec F S8x1x256 .f32) (s5 : Vec F S4x1024x2048 .bf16)
    (hI : Inv m c t.val s0 s1 s2 s3 s4 s5) :
    ∃ o' s0' s1' s2' s3' s4' s5', Inv m c (t.val + 1) s0' s1' s2' s3' s4' s5' ∧ (t.val < 16 → o' = o)
      ∧ (16 ≤ t.val → o' = outAt m c t)
      ∧ ∀ (E : Set ℕ) (K : PUnit → sProp 𝕄),
        iprop(HeldAt m c t o s0 s1 s2 s3 s4 s5 ∗ (HeldAt m c t o' s0' s1' s2' s3' s4' s5' -∗ K ⟨⟩))
          ⊢ wp frame (wpE (defs₀ (F := F)) Variants.none c none) E (bodyAt0 t) K := by
  have hN : t.val < 32 := lt_of_lt_of_eq t.isLt (show cfg0.N = 32 from N_0)
  by_cases h0 : t.val = 0
  · obtain ⟨n, hn⟩ := t
    obtain rfl : n = 0 := h0
    exact ⟨o, _, _, s2, s3, s4, s5, Inv.first hn, fun _ => rfl, fun h => absurd h (by simp),
      fun E K => run_first c _ _ _ _ _ _ _ _ _ _ _ _ _ _ _ _ _ _ _ _ _ _ _ _ _ _ _ _ _ _ _ _ _ _ (taken_first _ rfl) E K⟩
  by_cases h1 : t.val < 11
  · exact ⟨o, _, _, s2, s3, s4, s5, hI.stats t.isLt (by omega) h1, fun _ => rfl, fun h => absurd h (by omega),
      fun E K => run_stats c _ _ _ _ _ _ _ _ _ _ _ _ _ _ _ _ _ _ _ _ _ _ _ _ _ _ _ _ _ _ _ _ _ _ (taken_stats t (by omega) h1) E K⟩
  by_cases h2 : t.val < 15
  · have hk : t.val = 11 + (⟨t.val - 11, by omega⟩ : Fin 4).val := by show t.val = 11 + (t.val - 11); omega
    exact ⟨o, _, _, s2, s3, s4, _, hI.save t.isLt _ hk, fun _ => rfl, fun h => absurd h (by omega),
      fun E K => run_save c _ _ _ _ _ _ _ _ _ _ _ _ _ _ _ _ _ _ _ _ _ _ _ _ _ _ _ _ _ _ _ _ _ _ _ (taken_save t _ hk) E K⟩
  by_cases h3 : t.val = 15
  · exact ⟨o, _, _, _, _, _, s5, hI.whiten t.isLt h3, fun _ => rfl, fun h => absurd h (by omega),
      fun E K => run_whiten c _ _ _ _ _ _ _ _ _ _ _ _ _ _ _ _ _ _ _ _ _ _ _ _ _ _ _ _ _ _ _ _ _ _ (taken_whiten t h3) E K⟩
  by_cases h4 : t.val = 16 ∨ 21 ≤ t.val
  · exact ⟨_, s0, s1, s2, s3, s4, s5, hI.apply (by omega), fun h => absurd h (by omega), fun _ => outAt_apply t hI h4,
      fun E K => run_apply c _ _ _ _ _ _ _ _ _ _ _ _ _ _ _ _ _ _ _ _ _ _ _ _ _ _ _ _ _ _ _ _ _ _ (taken_apply t h4) E K⟩
  · have hk : t.val + (⟨20 - t.val, by omega⟩ : Fin 4).val = 20 := by show t.val + (20 - t.val) = 20; omega
    exact ⟨_, s0, s1, s2, s3, s4, s5, hI.apply (by omega), fun h => absurd h (by omega), fun _ => outAt_saved t hI _ hk,
      fun E K => run_saved c _ _ _ _ _ _ _ _ _ _ _ _ _ _ _ _ _ _ _ _ _ _ _ _ _ _ _ _ _ _ _ _ _ _ _ (taken_saved t _ hk) E K⟩

/-! ## The invariant and the proof data -/

/-- Before position `n`: the six scratch buffers at some contents the invariant `Inv` holds of, and the core's
    random-number register. -/
def Phi (c : Dev nD) (n : ℕ) : sProp 𝕄 :=
  iprop((∃ s0 s1 s2 s3 s4 s5, ⌜Inv m c n s0 s1 s2 s3 s4 s5⌝
      ∗ owns (c : Thread nD τ) (Memref.whole cc0_scratch0) fullShare s0 ∗ owns (c : Thread nD τ) (Memref.whole cc0_scratch1) fullShare s1
      ∗ owns (c : Thread nD τ) (Memref.whole cc0_scratch2) fullShare s2 ∗ owns (c : Thread nD τ) (Memref.whole cc0_scratch3) fullShare s3
      ∗ owns (c : Thread nD τ) (Memref.whole cc0_scratch4) fullShare s4 ∗ owns (c : Thread nD τ) (Memref.whole cc0_scratch5) fullShare s5)
    ∗ (∃ r, prngReg c r))

/-- What the launch hands over of the scratch buffers and the register, written out. -/
theorem start_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
          ∗ (∃ r, prngReg c r)) := by
  unfold Pipeline.ΦA; rw [scopedRest0_eq]; simp only [owns_whole]; try rfl

/-- The proof data of the sweep on core `c`: the arrays as the sweep finds them, each input's staging buffer left at its
    block, the result's at `outAt`, and the invariant `Phi`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t.val
  q _ := fullShare
  owed _ := 0

/-- Each array is what the sweep finds. -/
theorem A_eq (c : Dev nD) (w : Fin cfg0.W) : (dats m 0 c).A w = V m c (Pipeline.arrRef spec0 w) := by
  dsimp only [dats]

/-- What position `t` leaves staged of operand 0. -/
theorem after_0 (c : Dev nD) (t : Fin cfg0.N) : (dats m 0 c).after 0 t = iblk m c 0 t := by dsimp only [dats]
/-- What position `t` leaves staged of operand 1. -/
theorem after_1 (c : Dev nD) (t : Fin cfg0.N) : (dats m 0 c).after 1 t = iblk m c 1 t := by dsimp only [dats]
/-- What position `t` leaves staged of operand 2. -/
theorem after_2 (c : Dev nD) (t : Fin cfg0.N) : (dats m 0 c).after 2 t = iblk m c 2 t := by dsimp only [dats]
/-- What position `t` leaves staged of operand 3. -/
theorem after_3 (c : Dev nD) (t : Fin cfg0.N) : (dats m 0 c).after 3 t = iblk m c 3 t := by dsimp only [dats]
/-- What position `t` leaves staged of operand 4. -/
theorem after_4 (c : Dev nD) (t : Fin cfg0.N) : (dats m 0 c).after 4 t = outAt m c t := by dsimp only [dats]

/-- What position `t` finds staged of operand 0. -/
theorem before_0 (c : Dev nD) (t : Fin cfg0.N) (d) : (dats m 0 c).before 0 t d = iblk m c 0 t :=
  before0_0_of m (dats m 0 c) (A_eq m c 0) (after_0 m c) t d
/-- What position `t` finds staged of operand 1. -/
theorem before_1 (c : Dev nD) (t : Fin cfg0.N) (d) : (dats m 0 c).before 1 t d = iblk m c 1 t :=
  before0_1_of m (dats m 0 c) (A_eq m c 1) (after_1 m c) t d
/-- What position `t` finds staged of operand 2. -/
theorem before_2 (c : Dev nD) (t : Fin cfg0.N) (d) : (dats m 0 c).before 2 t d = iblk m c 2 t :=
  before0_2_of m (dats m 0 c) (A_eq m c 2) (after_2 m c) t d
/-- What position `t` finds staged of operand 3. -/
theorem before_3 (c : Dev nD) (t : Fin cfg0.N) (d) : (dats m 0 c).before 3 t d = iblk m c 3 t :=
  before0_3_of m (dats m 0 c) (A_eq m c 3) (after_3 m c) t d

/-- What is asked of operand 0's buffer after a position: its block, as found. -/
theorem leaves_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (cfg0.grid.coords t) = false from rfl, after_0]
/-- What is asked of operand 1's buffer after a position: its block, as found. -/
theorem leaves_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (cfg0.grid.coords t) = false from rfl, after_1]
/-- What is asked of operand 2's buffer after a position: its block, as found. -/
theorem leaves_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (cfg0.grid.coords t) = false from rfl, after_2]
/-- What is asked of operand 3's buffer after a position: its block, as found. -/
theorem leaves_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (cfg0.grid.coords t) = false from rfl, after_3]

/-- What is asked of the result's staging buffer after a position: as it was found, in the first half; the block `outAt`,
    in the second. -/
theorem leaves_4 (c : Dev nD) (t : Fin cfg0.N) (d) (o' : Vec F S1024x2048 .f32)
    (h1 : t.val < 16 → o' = (dats m 0 c).before 4 t d) (h2 : 16 ≤ t.val → o' = outAt m c t) :
    owns (c : Thread nD τ) (win0_4.stage (cfg0.slots t 4)) fullShare o' ⊢ ((dats m 0 c).leavesExact 4 t : sProp 𝕄) := by
  by_cases h : t.val < 16
  · rw [(dats m 0 c).leavesExact_idle 4 t (idle_early t h) (flush_early t h), h1 h]
    iintro H; iexists d; iexact H
  · have e : (dats m 0 c).leavesExact 4 t = owns (c : Thread nD τ) (win0_4.stage (cfg0.slots t 4)) fullShare (outAt m c t) := by
      unfold Dat.leavesExact; rw [idle_late t (by omega), after_4]
    rw [e, h2 (by omega)]

/-! ## The body's obligation -/

/-- What the body is called with at position `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at any position, in the launch's terms. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, leaves_0, leaves_1, leaves_2, leaves_3]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  unfold Phi
  iintro ⟨⟨⟨%s0, %s1, %s2, %s3, %s4, %s5, %hI, HS0, HS1, HS2, HS3, HS4, HS5⟩, Hg⟩, Ho, ⟨%d0, H0⟩, ⟨%d1, H1⟩, ⟨%d2, H2⟩, ⟨%d3, H3⟩, ⟨%d4, H4⟩⟩
  obtain ⟨o', s0', s1', s2', s3', s4', s5', hI', ho1, ho2, hrun⟩ := point m c t ((dats m 0 c).before 4 t d4) s0 s1 s2 s3 s4 s5 hI
  have hl := leaves_4 m c t d4 o' ho1 ho2
  unfold HeldAt Held at hrun
  iapply (hrun Set.univ _)
  isplitl [H0 H1 H2 H3 H4 HS0 HS1 HS2 HS3 HS4 HS5]
  · isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iexact HS5
  iintro ⟨H0, H1, H2, H3, H4, HS0, HS1, HS2, HS3, HS4, HS5⟩
  isplitl [HS0 HS1 HS2 HS3 HS4 HS5 Hg]
  · isplitl [HS0 HS1 HS2 HS3 HS4 HS5]
    · iexists s0', s1', s2', s3', s4', s5'
      isplitr; · ipureintro; exact hI'
      isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  iapply hl; iexact H4

/-- The body table's row at position `t`. -/
theorem defs₀_row (t : Fin cfg0.N) :
    defs₀ (F := F) .tc cfg0.body (cfg0.bodyArgs t (cfg0.slots t)) = bodyAt0 t := by
  unfold defs₀; rw [Defs.onTc_tc]

/-- At every position the kernel's body does what the proof data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first position. -/
theorem hin (c : Dev nD) : Pipeline.ΦA spec0 c ⊢ (dats m 0 c).Φ 0 := by
  rw [show (dats m 0 c).Φ 0 = Phi m c 0 from rfl, start_eq]
  unfold Phi
  iintro ⟨⟨⟨%s0, HS0⟩, ⟨%s1, HS1⟩, ⟨%s2, HS2⟩, ⟨%s3, HS3⟩, ⟨%s4, HS4⟩, ⟨%s5, HS5⟩⟩, Hg⟩
  isplitl [HS0 HS1 HS2 HS3 HS4 HS5]
  · iexists s0, s1, s2, s3, s4, s5
    isplitr; · ipureintro; exact Inv.zero
    isplitl [HS0]; · iexact HS0
    isplitl [HS1]; · iexact HS1
    isplitl [HS2]; · iexact HS2
    isplitl [HS3]; · iexact HS3
    isplitl [HS4]; · iexact HS4
    iexact HS5
  iexact Hg

/-- The invariant after the last position gives the buffers back. -/
theorem hout (c : Dev nD) : (dats m 0 c).Φ (Fin.last cfg0.N) ⊢ Pipeline.ΦA spec0 c := by
  rw [show (dats m 0 c).Φ (Fin.last cfg0.N) = Phi m c cfg0.N from rfl, start_eq]
  unfold Phi
  iintro ⟨⟨%s0, %s1, %s2, %s3, %s4, %s5, %hI, HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-! ## The run -/

set_option backward.isDefEq.respectTransparency.types false in
/-- From any memory with zero counters the whole program ends, the arrays then as the sweep leaves them, and every
    counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (hQ' := fun _ h => h)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter is at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Sweep

end
-- ==== Proof.Sweep.SameProgram.lean ====
module

public import proofs.«01_k».proof.Proof.Gen.Kernel
public import proofs.«01_k».proof.Proof.Gen.Kernel.Frame
public import proofs.«01_k».proof.Proof.Sweep.Run

@[expose] public section

set_option maxRecDepth 65536

noncomputable section

namespace Cert.Kernel.Sweep

open Cert.Kernel.Gen
open Idealize.ShloMosaic Idealize.ShloMosaic.TcCoe

variable {F : FTy → Type} [FloatOps F]

variable (m : (ℓ : Loc nD τ sig) → Buf (Elt F) ℓ) (ρ : Dev nD → PrngReg)

/-! # The two printed kernels are one program

No operation was replaced, so `Kernel` and `KernelIdeal` are printed alike, and every fact proved of the one at any
values is a fact about the other. (The branch tables of the two files are separate definitions, so they have to be
unfolded to be seen equal: `smartUnfolding` off.) -/

set_option maxHeartbeats 4000000 in
set_option smartUnfolding false in
/-- Equal bodies. -/
theorem defs_eq : @Cert.Kernel.defs F _ _ = @Cert.KernelIdeal.defs F _ _ := by rfl

set_option maxHeartbeats 8000000 in
set_option smartUnfolding false in
/-- Equal main programs. -/
theorem main_eq : @Cert.Kernel.main F _ _ = @Cert.KernelIdeal.main F _ _ := by rfl

set_option maxHeartbeats 8000000 in
set_option smartUnfolding false in
/-- The argument arrays end unchanged, and every counter is at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.KernelIdeal.Sweep.frame (F := F) m ρ

end Cert.Kernel.Sweep

end
-- ==== Proof.Value.Inputs.lean ====
module

public import proofs.«01_k».proof.Proof.Sweep.Contents
public import Idealize.ShloMosaic.Lib.Pipeline.ValueKit
public import Idealize.ShloMosaic.Lib.Claim

@[expose] public section

set_option maxRecDepth 16384

noncomputable section

namespace Cert.KernelIdeal.Value

open Cert.KernelIdeal.Gen Cert.KernelIdeal.Body Cert.KernelIdeal.Sweep
open Idealize.ShloMosaic Idealize.ShloMosaic.TcCoe Idealize.ShloMosaic.Tactic

variable (m : (ℓ : Loc nD τ sig) → Buf (Elt Ideal) ℓ) (c : Dev nD)

/-! # What the staged blocks are, in terms of the arguments -/

/-- The block of rows in hand at a position. -/
def xrow (t : ℕ) : ℕ := if t < 16 then t else if t < 21 then 15 else t - 21

/-- The block of the result's rows in hand at a position. -/
def orow (t : ℕ) : ℕ := if t < 16 then 15 else if t < 21 then 31 - t else t - 21

/-- Every window's block index. -/
theorem idx : ∀ t : Fin cfg0.N, win0_0.index t = ![0] ∧ win0_1.index t = ![xrow t.val, 0] ∧ win0_2.index t = ![0, 0, 0]
    ∧ win0_3.index t = ![0, 0, 0] ∧ win0_4.index t = ![orow t.val, 0] :=
  (by decide +kernel : ∀ t : Fin grid0.N, win0_0.index t = ![0] ∧ win0_1.index t = ![xrow t.val, 0] ∧ win0_2.index t = ![0, 0, 0]
    ∧ win0_3.index t = ![0, 0, 0] ∧ win0_4.index t = ![orow t.val, 0])

/-- A row of the data, by its block and its place there. -/
abbrev rowNo (b : ℕ) (hb : b < 16) (r : Fin 1024) : Fin 16384 := ⟨b * 1024 + r.val, by omega⟩

/-- A channel, by its slice and its place there. -/
abbrev chan (s : Fin 8) (j : Fin 256) : Fin 2048 := ⟨s.val * 256 + j.val, by omega⟩

/-- The data, -/
abbrev argX : Vec Ideal S16384x2048 .f32 := m ((c : Thread nD τ).loc main_arg0)
/-- the weights -/
abbrev argW : Vec Ideal S2048 .f32 := m ((c : Thread nD τ).loc main_arg3)
/-- and the biases. -/
abbrev argB : Vec Ideal S2048 .f32 := m ((c : Thread nD τ).loc main_arg4)

/-- The block of rows in hand at position `t`, element by element. -/
theorem xblk (t : Fin cfg0.N) (b : ℕ) (hb : b < 16) (h : xrow t.val = b) (r : Fin 1024) (k : Fin 2048) :
    (iblk m c 1 t : Vec Ideal S1024x2048 .f32) (ix2 r k) = argX m c (ix2 (rowNo b hb r) k) := by
  subst h
  blk_ext [iblk, V, idx t]

/-- The staged weights, element by element. -/
theorem wblk (t : Fin cfg0.N) (s : Fin 8) (j : Fin 256) :
    (iblk m c 2 t : Vec Ideal S8x1x256 .f32) (ix3 s 0 j) = argW m c (ix1 (chan s j)) := by
  blk_point [iblk, V, idx t]

/-- The staged biases, element by element. -/
theorem bblk (t : Fin cfg0.N) (s : Fin 8) (j : Fin 256) :
    (iblk m c 3 t : Vec Ideal S8x1x256 .f32) (ix3 s 0 j) = argB m c (ix1 (chan s j)) := by
  blk_point [iblk, V, idx t]

end Cert.KernelIdeal.Value

end
-- ==== Proof.Math.Blocks.lean ====
module

public import Mathlib.Data.Matrix.Block
public import Mathlib.Data.Matrix.Mul
public import Mathlib.LinearAlgebra.Matrix.Symmetric
public import Mathlib.Analysis.Real.Sqrt
public import Mathlib.Algebra.BigOperators.Fin
public import Mathlib.Tactic.Ring
public import Mathlib.Tactic.Linarith

/-! # Newton–Schulz steps on one group and on a slice of sixteen groups

The reference whitens each group of sixteen channels by a 16×16 matrix. The kernel treats sixteen groups at once, as one
256×256 matrix which is zero outside the groups' own blocks. Placing the blocks on the diagonal respects sums, products and
the unit matrix, so both do the same steps. -/

@[expose] public section

noncomputable section

namespace Cert.White

open Matrix

/-- A matrix of one group of channels. -/
abbrev Small := Matrix (Fin 16) (Fin 16) ℝ

/-- A matrix of one slice of channels. -/
abbrev Big := Matrix (Fin 256) (Fin 256) ℝ

/-- The group within its slice, of a channel of a slice. -/
def grp (i : Fin 256) : Fin 16 := ⟨i.val / 16, Nat.div_lt_of_lt_mul i.isLt⟩

/-- The place within its group, of a channel of a slice. -/
def plc (i : Fin 256) : Fin 16 := ⟨i.val % 16, Nat.mod_lt _ (by decide)⟩

/-- The channel of a slice at a place of a group. -/
def chn (q c : Fin 16) : Fin 256 := ⟨16 * q.val + c.val, by omega⟩

/-- The group of a channel made from a group and a place. -/
theorem grp_chn (q c : Fin 16) : grp (chn q c) = q := Fin.ext (by show (16 * q.val + c.val) / 16 = q.val; omega)

/-- The place of a channel made from a group and a place. -/
theorem plc_chn (q c : Fin 16) : plc (chn q c) = c := Fin.ext (by show (16 * q.val + c.val) % 16 = c.val; omega)

/-- A channel is made from its group and its place. -/
theorem chn_grp_plc (i : Fin 256) : chn (grp i) (plc i) = i := Fin.ext (by show 16 * (i.val / 16) + i.val % 16 = i.val; omega)

/-- A channel of a slice is a place in a group. -/
def split : Fin 256 ≃ Fin 16 × Fin 16 where
  toFun i := (plc i, grp i)
  invFun p := chn p.2 p.1
  left_inv := chn_grp_plc
  right_inv p := Prod.ext (plc_chn p.2 p.1) (grp_chn p.2 p.1)

/-- Sixteen small matrices on the diagonal of a big one. -/
def embed (A : Fin 16 → Small) : Big := (blockDiagonal A).submatrix split split

/-- An entry of the big matrix. -/
theorem embed_apply (A : Fin 16 → Small) (i j : Fin 256) :
    embed A i j = if grp i = grp j then A (grp i) (plc i) (plc j) else 0 := by
  simp [embed, split, blockDiagonal_apply]

/-- The product goes block by block. -/
theorem embed_mul (A B : Fin 16 → Small) : embed A * embed B = embed fun q => A q * B q := by
  unfold embed
  rw [submatrix_mul_equiv, ← blockDiagonal_mul]

/-- The sum goes block by block. -/
theorem embed_add (A B : Fin 16 → Small) : embed A + embed B = embed fun q => A q + B q := by
  ext i j
  simp only [Matrix.add_apply, embed_apply]
  split_ifs <;> simp

/-- A multiple goes block by block. -/
theorem embed_smul (r : ℝ) (A : Fin 16 → Small) : r • embed A = embed fun q => r • A q := by
  ext i j
  simp only [Matrix.smul_apply, embed_apply]
  split_ifs <;> simp

/-- The unit matrix is the units on the diagonal. -/
theorem embed_one : (1 : Big) = embed fun _ => 1 := by
  unfold embed
  have h : (blockDiagonal fun _ : Fin 16 => (1 : Small)) = 1 := blockDiagonal_one
  rw [h, submatrix_one_equiv]

/-- A sum over a slice's channels, of terms which vanish outside one group, is the sum over that group. -/
theorem sum_group {M : Type} [AddCommMonoid M] (f : Fin 256 → M) (j : Fin 256) :
    (∑ i, if grp i = grp j then f i else 0) = ∑ c, f (chn (grp j) c) := by
  rw [← split.symm.sum_comp, Fintype.sum_prod_type]
  refine Finset.sum_congr rfl fun c _ => ?_
  show (∑ q, if grp (chn q c) = grp j then f (chn q c) else 0) = _
  simp only [grp_chn]
  simp

/-! ## The steps -/

/-- The reference's step `1.5 p - 0.5 p³ n`. -/
def step (n p : Small) : Small := (3 / 2 : ℝ) • p - (1 / 2 : ℝ) • (p * p * p * n)

/-- Five steps from the unit matrix. -/
def steps (n : Small) : Small := step n (step n (step n (step n (step n 1))))

/-- The kernel's step `1.5 p + p³ h`. -/
def bigStep (h p : Big) : Big := (3 / 2 : ℝ) • p + p * p * p * h

/-- Five of the kernel's steps, the first one written out. -/
def bigSteps (h : Big) : Big := bigStep h (bigStep h (bigStep h (bigStep h ((3 / 2 : ℝ) • 1 + h))))

/-- The kernel's step is the reference's, block by block. -/
theorem bigStep_embed (n p : Fin 16 → Small) :
    bigStep (embed fun q => (-(1 / 2) : ℝ) • n q) (embed p) = embed fun q => step (n q) (p q) := by
  unfold bigStep step
  simp only [embed_mul, embed_add, embed_smul]
  refine congrArg embed (funext fun q => ?_)
  rw [Matrix.mul_smul, neg_smul, sub_eq_add_neg]

/-- On a slice the kernel's steps are the reference's on each group. -/
theorem bigSteps_embed (n : Fin 16 → Small) :
    bigSteps (embed fun q => (-(1 / 2) : ℝ) • n q) = embed fun q => steps (n q) := by
  have h0 : (3 / 2 : ℝ) • (1 : Big) + (embed fun q => (-(1 / 2) : ℝ) • n q) = embed fun q => step (n q) 1 := by
    rw [embed_one, embed_smul, embed_add]
    refine congrArg embed (funext fun q => ?_)
    unfold step
    rw [one_mul, one_mul, one_mul, neg_smul, sub_eq_add_neg]
  unfold bigSteps
  rw [h0, bigStep_embed, bigStep_embed, bigStep_embed, bigStep_embed]
  rfl

/-- What commutes with `n` still does after a step. -/
theorem step_commute {n p : Small} (h : Commute n p) : Commute n (step n p) :=
  (h.smul_right _).sub_right ((((h.mul_right h).mul_right h).mul_right (Commute.refl n)).smul_right _)

/-- A step keeps a matrix symmetric. -/
theorem step_symm {n p : Small} (hn : nᵀ = n) (hp : pᵀ = p) (h : Commute n p) : (step n p)ᵀ = step n p := by
  unfold step
  rw [transpose_sub, transpose_smul, transpose_smul, transpose_mul, transpose_mul, transpose_mul, hn, hp]
  have h3 : n * (p * (p * p)) = p * p * p * n := by
    rw [← mul_assoc p p p]
    exact (h.mul_right h).mul_right h
  rw [h3]

/-- The steps of a symmetric matrix are symmetric. -/
theorem steps_symm {n : Small} (hn : nᵀ = n) : (steps n)ᵀ = steps n := by
  have c0 : Commute n (1 : Small) := Commute.one_right n
  have c1 := step_commute c0
  have c2 := step_commute c1
  have c3 := step_commute c2
  have c4 := step_commute c3
  exact step_symm hn (step_symm hn (step_symm hn (step_symm hn (step_symm hn transpose_one c0) c1) c2) c3) c4

end Cert.White

end
-- ==== Proof.Math.Whitening.lean ====
module

public import proofs.«01_k».proof.Proof.Math.Blocks
public import Mathlib.Data.EReal.Inv

/-! # The statistics of a group, and the two ways of computing them -/

@[expose] public section

noncomputable section

namespace Cert.White

open Matrix

/-- The number of rows. -/
abbrev rows : ℕ := 16384

/-- A group's data: its sixteen channels in every row. -/
abbrev Data := Fin rows → Fin 16 → ℝ

/-- The small multiple of the unit matrix that is added to the covariance. -/
def eps : ℝ := 10995116 / 1099511627776

/-- The multiple is positive. -/
theorem eps_pos : 0 < eps := by unfold eps; norm_num

/-- A channel's mean. -/
def mean (Z : Data) (c : Fin 16) : ℝ := (∑ n, Z n c) / 16384

/-- The covariance of a group's channels. -/
def centred (Z : Data) : Small := Matrix.of fun c d => (∑ n, (Z n c - mean Z c) * (Z n d - mean Z d)) / 16384

/-- The covariance times a weight, with the small multiple of the unit matrix added. The weight is an extended real number. -/
def cov (v : EReal) (Z : Data) (c d : Fin 16) : EReal := v * ((centred Z c d : ℝ) : EReal) + ((eps * (1 : Small) c d : ℝ) : EReal)

/-- Its trace. -/
def tr (v : EReal) (Z : Data) : EReal := ∑ c, cov v Z c c

/-- One over the trace. -/
def inv (v : EReal) (Z : Data) : ℝ := (tr v Z)⁻¹.toReal

/-- The covariance divided by its trace. -/
def normed (v : EReal) (Z : Data) : Small := Matrix.of fun c d => (cov v Z c d * ((inv v Z : ℝ) : EReal)).toReal

/-- The whitening matrix, before the root of the trace is divided out. -/
def whit (v : EReal) (Z : Data) : Small := steps (normed v Z)

/-- One over the root of the trace. -/
def root (v : EReal) (Z : Data) : ℝ := Real.sqrt (inv v Z)

/-- What a softmax weight can be: a real number which is not negative, or, when the larger of its two numbers is infinite, the
    lower infinity. -/
def Weight (v : EReal) : Prop := v = ⊥ ∨ ∃ r : ℝ, 0 ≤ r ∧ v = ((r : ℝ) : EReal)

/-- A finite sum of real numbers, taken in the extended reals. -/
theorem coe_sum {ι : Type} (s : Finset ι) (f : ι → ℝ) : (((∑ i ∈ s, f i) : ℝ) : EReal) = ∑ i ∈ s, ((f i : ℝ) : EReal) := by
  classical
  induction s using Finset.induction_on with
  | empty => simp
  | insert a s ha ih => rw [Finset.sum_insert ha, Finset.sum_insert ha, EReal.coe_add, ih]

/-- A channel's variance is not negative. -/
theorem centred_nonneg (Z : Data) (c : Fin 16) : 0 ≤ centred Z c c := by
  unfold centred
  rw [Matrix.of_apply]
  exact div_nonneg (Finset.sum_nonneg fun n _ => mul_self_nonneg _) (by norm_num)

/-- Where no channel varies, no two vary together. -/
theorem centred_zero {Z : Data} (h : ∀ c, centred Z c c = 0) (c d : Fin 16) : centred Z c d = 0 := by
  have hz : ∀ n, Z n c - mean Z c = 0 := by
    have hc := h c
    unfold centred at hc
    rw [Matrix.of_apply, div_eq_zero_iff, or_iff_left (by norm_num), Finset.sum_eq_zero_iff_of_nonneg fun n _ => mul_self_nonneg _] at hc
    exact fun n => mul_self_eq_zero.1 (hc n (Finset.mem_univ _))
  unfold centred
  rw [Matrix.of_apply]
  simp only [hz, zero_mul, Finset.sum_const_zero, zero_div]

/-- With a real weight the weighted covariance is real. -/
theorem cov_real (r : ℝ) (Z : Data) (c d : Fin 16) : cov ((r : ℝ) : EReal) Z c d = ((r * centred Z c d + eps * (1 : Small) c d : ℝ) : EReal) := by
  unfold cov
  simp only [EReal.coe_add, EReal.coe_mul]

/-- With a real weight the trace is a positive real number. -/
theorem tr_real {r : ℝ} (hr : 0 ≤ r) (Z : Data) : ∃ t : ℝ, 0 < t ∧ tr ((r : ℝ) : EReal) Z = ((t : ℝ) : EReal) := by
  refine ⟨∑ c, (r * centred Z c c + eps * (1 : Small) c c), ?_, ?_⟩
  · refine Finset.sum_pos (fun c _ => ?_) ⟨0, Finset.mem_univ _⟩
    rw [Matrix.one_apply_eq, mul_one]
    exact add_pos_of_nonneg_of_pos (mul_nonneg hr (centred_nonneg Z c)) eps_pos
  · unfold tr
    simp only [cov_real]
    exact (coe_sum _ _).symm

/-- A sum with a term at the lower infinity is the lower infinity. -/
theorem sum_bot {f : Fin 16 → EReal} {c : Fin 16} (h : f c = ⊥) : ∑ d, f d = ⊥ := by
  rw [← Finset.add_sum_erase _ f (Finset.mem_univ c), h, EReal.bot_add]

/-- Either the trace is the lower infinity, or it and the weighted covariance are real and the trace positive. -/
theorem tr_cases {v : EReal} (hv : Weight v) (Z : Data) :
    tr v Z = ⊥ ∨ ∃ t : ℝ, 0 < t ∧ tr v Z = ((t : ℝ) : EReal) ∧ ∀ c d, ∃ q : ℝ, cov v Z c d = ((q : ℝ) : EReal) := by
  rcases hv with rfl | ⟨r, hr, rfl⟩
  · by_cases h : ∀ c, centred Z c c = 0
    · have e : ∀ c d, cov ⊥ Z c d = cov ((0 : ℝ) : EReal) Z c d := fun c d => by
        unfold cov
        rw [centred_zero h, EReal.coe_zero, mul_zero, mul_zero]
      obtain ⟨t, ht, et⟩ := tr_real le_rfl Z
      refine Or.inr ⟨t, ht, ?_, fun c d => ⟨_, (e c d).trans (cov_real 0 Z c d)⟩⟩
      rw [← et]
      exact Finset.sum_congr rfl fun c _ => e c c
    · obtain ⟨c, hc⟩ := not_forall.1 h
      refine Or.inl (sum_bot (c := c) ?_)
      unfold cov
      rw [EReal.bot_mul_coe_of_pos (lt_of_le_of_ne (centred_nonneg Z c) (Ne.symm hc)), EReal.bot_add]
  · obtain ⟨t, ht, et⟩ := tr_real hr Z
    exact Or.inr ⟨t, ht, et, fun c d => ⟨_, cov_real r Z c d⟩⟩

/-- The trace is not zero. -/
theorem tr_ne {v : EReal} (hv : Weight v) (Z : Data) : tr v Z ≠ 0 := by
  rcases tr_cases hv Z with e | ⟨t, ht, e, -⟩
  · rw [e]; exact EReal.bot_ne_zero
  · rw [e]; exact_mod_cast ht.ne'

/-- One over the trace is real, -/
theorem inv_coe {v : EReal} (hv : Weight v) (Z : Data) : (tr v Z)⁻¹ = ((inv v Z : ℝ) : EReal) := by
  unfold inv
  rcases tr_cases hv Z with e | ⟨t, ht, e, -⟩
  · rw [e, EReal.inv_bot, EReal.toReal_zero, EReal.coe_zero]
  · rw [e, ← EReal.coe_inv, EReal.toReal_coe]

/-- and not negative. -/
theorem inv_nonneg {v : EReal} (hv : Weight v) (Z : Data) : 0 ≤ inv v Z := by
  unfold inv
  rcases tr_cases hv Z with e | ⟨t, ht, e, -⟩
  · rw [e, EReal.inv_bot, EReal.toReal_zero]
  · rw [e, ← EReal.coe_inv, EReal.toReal_coe]
    exact _root_.inv_nonneg.2 ht.le

/-- The covariance divided by its trace is real. -/
theorem normed_coe {v : EReal} (hv : Weight v) (Z : Data) (c d : Fin 16) :
    cov v Z c d * ((inv v Z : ℝ) : EReal) = ((normed v Z c d : ℝ) : EReal) := by
  unfold normed
  rw [Matrix.of_apply]
  rcases tr_cases hv Z with e | ⟨t, ht, -, h⟩
  · have h0 : inv v Z = 0 := by
      unfold inv
      rw [e, EReal.inv_bot, EReal.toReal_zero]
    rw [h0, EReal.coe_zero, mul_zero, EReal.toReal_zero, EReal.coe_zero]
  · obtain ⟨q, hq⟩ := h c d
    rw [hq, ← EReal.coe_mul, EReal.toReal_coe]

/-- The weighted covariance is symmetric, -/
theorem cov_symm (v : EReal) (Z : Data) (c d : Fin 16) : cov v Z d c = cov v Z c d := by
  have h1 : (1 : Small) d c = (1 : Small) c d := by
    rw [Matrix.one_apply, Matrix.one_apply]; exact if_congr eq_comm rfl rfl
  unfold cov centred
  rw [h1, Matrix.of_apply, Matrix.of_apply]
  simp only [mul_comm (Z _ d - mean Z d)]

/-- and so is its quotient by the trace. -/
theorem normed_symm (v : EReal) (Z : Data) : (normed v Z)ᵀ = normed v Z := by
  ext c d
  unfold normed
  rw [Matrix.transpose_apply, Matrix.of_apply, Matrix.of_apply, cov_symm]

/-- The whitening matrix is symmetric. -/
theorem whit_symm (v : EReal) (Z : Data) (c d : Fin 16) : whit v Z c d = whit v Z d c :=
  (congrFun (congrFun (steps_symm (normed_symm v Z)) c) d).symm

/-- The covariance of two columns from the sum of products and the sums: the mean of the product minus the product of the means. -/
theorem cov_of_sums (x y : Fin rows → ℝ) :
    (∑ n, x n * y n) * (1 / 16384) - (∑ n, x n) * (1 / 16384) * ((∑ n, y n) * (1 / 16384))
      = (∑ n, (x n - (∑ n, x n) / 16384) * (y n - (∑ n, y n) / 16384)) / 16384 := by
  have h : ∀ n, (x n - (∑ n, x n) / 16384) * (y n - (∑ n, y n) / 16384)
      = x n * y n - x n * ((∑ n, y n) / 16384) - (∑ n, x n) / 16384 * y n + (∑ n, x n) / 16384 * ((∑ n, y n) / 16384) := fun n => by ring
  simp only [h]
  rw [Finset.sum_add_distrib, Finset.sum_sub_distrib, Finset.sum_sub_distrib, ← Finset.sum_mul, ← Finset.mul_sum, Finset.sum_const,
    Finset.card_univ, Fintype.card_fin, nsmul_eq_mul]
  push_cast
  ring

/-- A slice's data: its 256 channels in every row. -/
abbrev SliceData := Fin rows → Fin 256 → ℝ

/-- The data of a group of the slice. -/
def group (X : SliceData) (q : Fin 16) : Data := fun n c => X n (chn q c)

/-- The weighted covariance of a slice's channels within their groups, zero between the groups. -/
def covBig (v : EReal) (X : SliceData) (i j : Fin 256) : EReal :=
  if grp i = grp j then cov v (group X (grp i)) (plc i) (plc j) else 0

/-- The covariance as the kernel computes it on a slice: from the sums, masked to the groups' blocks. -/
theorem cov_embed (v : EReal) (X : SliceData) (i j : Fin 256) :
    v * (((if grp i = grp j then 1 else 0)
        * ((∑ n, X n i * X n j) * (1 / 16384) - (∑ n, X n i) * (1 / 16384) * ((∑ n, X n j) * (1 / 16384))) : ℝ) : EReal)
      + ((eps * (1 : Big) i j : ℝ) : EReal) = covBig v X i j := by
  rw [cov_of_sums]
  unfold covBig
  split_ifs with h
  · unfold cov centred mean group
    rw [Matrix.of_apply, chn_grp_plc, h, chn_grp_plc, one_mul, Matrix.one_apply, Matrix.one_apply]
    have e : (i = j) ↔ plc i = plc j := ⟨fun e => e ▸ rfl, fun e => by rw [← chn_grp_plc i, ← chn_grp_plc j, h, e]⟩
    rw [if_congr e rfl rfl]
  · have e : i ≠ j := fun e => h (e ▸ rfl)
    rw [Matrix.one_apply_ne e, zero_mul, mul_zero, EReal.coe_zero, mul_zero, add_zero]

/-- The trace of a channel's group as the kernel computes it. -/
theorem trace_embed (v : EReal) (X : SliceData) (j : Fin 256) :
    (∑ i, (∑ k, covBig v X k i * (((1 : Big) k i : ℝ) : EReal)) * (((if grp i = grp j then 1 else 0) : ℝ) : EReal)) = tr v (group X (grp j)) := by
  have h : ∀ i, (∑ k, covBig v X k i * (((1 : Big) k i : ℝ) : EReal)) * (((if grp i = grp j then 1 else 0) : ℝ) : EReal)
      = if grp i = grp j then covBig v X i i else 0 := by
    intro i
    rw [Finset.sum_eq_single i (fun k _ hk => by rw [Matrix.one_apply_ne hk, EReal.coe_zero, mul_zero]) (fun h => absurd (Finset.mem_univ _) h),
      Matrix.one_apply_eq, EReal.coe_one, mul_one]
    split_ifs
    · rw [EReal.coe_one, mul_one]
    · rw [EReal.coe_zero, mul_zero]
  simp only [h]
  rw [sum_group]
  unfold tr
  refine Finset.sum_congr rfl fun c _ => ?_
  unfold covBig
  rw [if_pos rfl, grp_chn, plc_chn]

/-- The covariance times minus one half of one over the trace. -/
theorem half_embed {v : EReal} (hv : Weight v) (X : SliceData) (i j : Fin 256) :
    covBig v X i j * ((-(1 / 2) * inv v (group X (grp j)) : ℝ) : EReal)
      = ((embed (fun q => (-(1 / 2) : ℝ) • normed v (group X q)) i j : ℝ) : EReal) := by
  rw [embed_apply]
  unfold covBig
  split_ifs with h
  · rw [EReal.coe_mul, mul_left_comm, h, normed_coe hv, ← EReal.coe_mul]
    rfl
  · rw [zero_mul, EReal.coe_zero]

/-- A whitened value of a row: its group's values, mixed with the mean, times the whitening matrix. -/
def rowOut (a b : ℝ) (v : EReal) (Z : Data) (n : Fin rows) (c : Fin 16) : ℝ :=
  (∑ d, (a * Z n d - b * mean Z d) * whit v Z d c) * root v Z

/-- The real matrix the kernel prepares for a slice, without the number in front. -/
def wm (v : EReal) (X : SliceData) (w : Fin 256 → ℝ) : Big :=
  Matrix.of fun i j => embed (fun q => whit v (group X q)) i j * root v (group X (grp j)) * w j

/-- A row times the slice's matrix, minus the mean's part of it, is the whitened value times the weight. -/
theorem slice_out (a b : ℝ) (v : EReal) (X : SliceData) (w : Fin 256 → ℝ) (n : Fin rows) (j : Fin 256) :
    (∑ i, X n i * (a * wm v X w i j)) - b * ∑ i, (∑ n, X n i) * (1 / 16384) * wm v X w i j
      = rowOut a b v (group X (grp j)) n (plc j) * w j := by
  have h : ∀ i, X n i * (a * wm v X w i j) - b * ((∑ n, X n i) * (1 / 16384) * wm v X w i j)
      = (if grp i = grp j then (a * X n i - b * ((∑ n, X n i) / 16384)) * whit v (group X (grp i)) (plc i) (plc j) else 0)
        * (root v (group X (grp j)) * w j) := by
    intro i
    unfold wm
    rw [Matrix.of_apply, embed_apply]
    split_ifs <;> ring
  rw [Finset.mul_sum, ← Finset.sum_sub_distrib, Finset.sum_congr rfl fun i _ => h i, ← Finset.sum_mul, sum_group]
  unfold rowOut mean group
  simp only [grp_chn, plc_chn]
  ring

end Cert.White

end
-- ==== Proof.Value.Matrix.lean ====
module

public import proofs.«01_k».proof.Proof.Body.Blocks
public import proofs.«01_k».proof.Proof.Math.Whitening

@[expose] public section

set_option maxRecDepth 16384

noncomputable section

namespace Cert.KernelIdeal.Value

open Cert.KernelIdeal Cert.KernelIdeal.Gen Cert.KernelIdeal.Body Cert.White
open Idealize.ShloMosaic Idealize.ShloMosaic.TcCoe Idealize.ShloMosaic.Tactic

/-! # The kernel's matrix operations on real entries

Where every entry is a real number, each operation on 256 × 256 arrays of extended reals is the operation of the same
name on real matrices. -/

/-- A real matrix as an array of extended reals. -/
def up (A : Big) : FVec Ideal S256x256 .f32 := fun y => ((A (y 0) (y 1) : ℝ) : EReal)

/-- A real row as an array of extended reals. -/
def upRow (a : Fin 256 → ℝ) : FVec Ideal S1x256 .f32 := fun y => ((a (y 1) : ℝ) : EReal)

/-- A matrix of extended reals as an array. -/
def arr (f : Fin 256 → Fin 256 → EReal) : FVec Ideal S256x256 .f32 := fun y => f (y 0) (y 1)

/-- A row of extended reals as an array. -/
def arrRow (f : Fin 256 → EReal) : FVec Ideal S1x256 .f32 := fun y => f (y 1)

/-- An entry of the array of a matrix of extended reals. -/
theorem arr_at (f : Fin 256 → Fin 256 → EReal) (i j : Fin 256) : arr f (ix2 i j) = f i j := rfl
/-- An entry of the array of a row of extended reals. -/
theorem arrRow_at (f : Fin 256 → EReal) (i : Fin 1) (j : Fin 256) : arrRow f (ix2 i j) = f j := rfl
/-- An entry of the array of a real matrix. -/
theorem up_at (A : Big) (i j : Fin 256) : up A (ix2 i j) = ((A i j : ℝ) : EReal) := rfl
/-- An entry of the array of a real row. -/
theorem upRow_at (a : Fin 256 → ℝ) (i : Fin 1) (j : Fin 256) : upRow a (ix2 i j) = ((a j : ℝ) : EReal) := rfl

/-- Arrays with equal entries are equal. -/
theorem ext2 {S T : FVec Ideal S256x256 .f32} (h : ∀ i j : Fin 256, S (ix2 i j) = T (ix2 i j)) : S = T := by
  funext y
  have e : (ix2 (y 0) (y 1) : S256x256.Idx) = y := funext fun a => by
    match a with
    | ⟨0, _⟩ => rfl
    | ⟨1, _⟩ => rfl
  rw [← e]; exact h (y 0) (y 1)

/-- Rows with equal entries are equal. -/
theorem ext1 {S T : FVec Ideal S1x256 .f32} (h : ∀ j : Fin 256, S (ix2 0 j) = T (ix2 0 j)) : S = T := by
  funext y
  have e : (ix2 0 (y 1) : S1x256.Idx) = y := funext fun a => by
    match a with
    | ⟨0, _⟩ => exact Fin.ext (by show 0 = (y 0).val; have : (y 0).val < 1 := (y 0).isLt; omega)
    | ⟨1, _⟩ => rfl
  rw [← e]; exact h (y 1)

/-- The matrix product. -/
theorem mul_up (A B : Big) : mul (up A) (up B) = up (A * B) := by
  apply ext2; intro i j
  rw [up_at, Matrix.mul_apply, coe_sum]
  simp only [EReal.coe_mul]
  pointwise [mul, up]

/-- The product, entry by entry, with a real matrix. -/
theorem mulf_arr (f : Fin 256 → Fin 256 → EReal) (B : Big) : mulf (arr f) (up B) = arr fun i j => f i j * ((B i j : ℝ) : EReal) := by
  apply ext2; intro i j
  rw [arr_at]
  pointwise [arr, up]

/-- A row times a real matrix. -/
theorem rowMul_arr (f : Fin 256 → EReal) (B : Big) : rowMul (arrRow f) (up B) = arrRow fun j => ∑ i, f i * ((B i j : ℝ) : EReal) := by
  apply ext1; intro j
  rw [arrRow_at]
  pointwise [rowMul, up, arrRow]

/-- A real row times a real matrix. -/
theorem rowMul_up (a : Fin 256 → ℝ) (B : Big) : rowMul (upRow a) (up B) = upRow fun j => ∑ i, a i * B i j := by
  apply ext1; intro j
  rw [upRow_at, coe_sum]
  simp only [EReal.coe_mul]
  pointwise [rowMul, up, upRow]

/-- A real multiple. -/
theorem scale_up (r : ℝ) (A : Big) : scale ((r : ℝ) : EReal) (up A) = up (r • A) := by
  apply ext2; intro i j
  pointwise [scale, up]
  exact (EReal.coe_mul _ _).symm

/-- A row repeated down the matrix. -/
theorem down_up (a : Fin 256 → ℝ) : down (upRow a) = up (Matrix.of fun _ j => a j) := by
  apply ext2; intro i j
  pointwise [down, up, upRow]
  rfl

/-- The product of real matrices, entry by entry. -/
theorem mulf_up (A B : Big) : mulf (up A) (up B) = up (Matrix.of fun i j => A i j * B i j) := by
  apply ext2; intro i j
  pointwise [up]
  exact (EReal.coe_mul _ _).symm

/-- The sum. -/
theorem addf_up (A B : Big) : addf (up A) (up B) = up (A + B) := by
  apply ext2; intro i j
  pointwise [up]
  exact (EReal.coe_add _ _).symm

/-- One bit as a number. -/
theorem bit_coe (p : Prop) [Decidable p] (b : BitVec 1) (h : b = if p then 1#1 else 0#1) :
    (FloatOps.sitofp (F := Ideal) FTy.f32 (BitVec.setWidth 32 b)) = (((if p then 1 else 0 : ℝ)) : EReal) := by
  subst h
  split
  · show (((BitVec.setWidth 32 1#1).toInt : ℝ) : EReal) = _
    simp
  · show (((BitVec.setWidth 32 0#1).toInt : ℝ) : EReal) = _
    simp

/-- Comparing two small numbers as words. -/
theorem cmpi_eq_ofNat (a b : ℕ) (ha : a < 256) (hb : b < 256) :
    IntOp.cmpi CmpIPredicate.eq (BitVec.ofNat 32 a) (BitVec.ofNat 32 b) = if a = b then 1#1 else 0#1 := by
  have h : (BitVec.ofNat 32 a = BitVec.ofNat 32 b) ↔ a = b := by
    constructor
    · intro h
      have := congrArg BitVec.toNat h
      simp only [BitVec.toNat_ofNat] at this
      omega
    · rintro rfl; rfl
  by_cases e : a = b
  · subst e; simp [IntOp.cmpi]
  · rw [if_neg e]
    have : ¬ (BitVec.ofNat 32 a = BitVec.ofNat 32 b) := fun x => e (h.1 x)
    simp only [IntOp.cmpi]
    rw [beq_eq_false_iff_ne.2 this]; rfl

/-- The kernel's unit matrix. -/
theorem unit_up : unitMat (F := Ideal) = up 1 := by
  apply ext2; intro i j
  rw [up_at, Matrix.one_apply]
  pointwise [unitMat, k0_pay21]
  exact bit_coe _ _ ((cmpi_eq_ofNat i.val j.val i.isLt j.isLt).trans (by simp only [Fin.ext_iff]))

/-- The kernel's division by sixteen, rounding down, on the channels of a slice. -/
theorem floor_sixteen : ∀ i : Fin 256, (Scalar.select
            (IntOp.andi
              (IntOp.cmpi CmpIPredicate.ne
                (IntOp.subi (BitVec.setWidth 32 (IntOp.cmpi CmpIPredicate.sgt (BitVec.ofNat 32 i.val) 0#32))
                  (BitVec.setWidth 32 (IntOp.cmpi CmpIPredicate.slt (BitVec.ofNat 32 i.val) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 i.val) 16#32) 0#32))
            (IntOp.subi (IntOp.divsi ArithUnit.vector (BitVec.ofNat 32 i.val) 16#32) 1#32)
            (IntOp.divsi ArithUnit.vector (BitVec.ofNat 32 i.val) 16#32)) = BitVec.ofNat 32 (grp i).val := by
  decide +kernel

/-- The kernel's mask: one where two channels are in one group, zero elsewhere. -/
theorem group_up : groupMat (F := Ideal) = up (Matrix.of fun i j => if grp i = grp j then 1 else 0) := by
  apply ext2; intro i j
  rw [up_at, Matrix.of_apply]
  pointwise [groupMat, k0_pay25, k0_pay22, k0_pay23, k0_pay24]
  refine bit_coe _ _ ?_
  rw [floor_sixteen i, floor_sixteen j]
  exact (cmpi_eq_ofNat _ _ (by omega) (by omega)).trans (by simp only [Fin.ext_iff])

end Cert.KernelIdeal.Value

end
-- ==== Proof.Value.Slice.lean ====
module

public import proofs.«01_k».proof.Proof.Value.Matrix

@[expose] public section

set_option maxRecDepth 16384

noncomputable section

namespace Cert.KernelIdeal.Value

open Cert.KernelIdeal Cert.KernelIdeal.Gen Cert.KernelIdeal.Body Cert.White
open Idealize.ShloMosaic Idealize.ShloMosaic.TcCoe Idealize.ShloMosaic.Tactic

/-! # What the kernel prepares for one slice, from the slice's sums -/

/-! ## The constants -/

/-- One over the number of rows. -/
theorem c_rows_inv : Ideal.ofBits .f32 0x38800000#32 = ((1 / 16384 : ℝ) : EReal) := by
  simp [Ideal.ofBits, Ideal.ieee, -EReal.coe_mul]; norm_num

/-- The small multiple of the unit matrix. -/
theorem c_eps : Ideal.ofBits .f32 0x3727C5AC#32 = ((eps : ℝ) : EReal) := by
  unfold eps
  simp [Ideal.ofBits, Ideal.ieee, -EReal.coe_mul]; norm_num

/-- Minus one half. -/
theorem c_neg_half : (Scalar.ofBits (F := Ideal) .f32 0xBF000000#32) = ((-(1 / 2) : ℝ) : EReal) := by
  show Ideal.ofBits .f32 0xBF000000#32 = _
  simp [Ideal.ofBits, Ideal.ieee, -EReal.coe_mul, -EReal.coe_neg]; norm_num

/-- Three halves. -/
theorem c_three_halves : (Scalar.ofBits (F := Ideal) .f32 0x3FC00000#32) = ((3 / 2 : ℝ) : EReal) := by
  show Ideal.ofBits .f32 0x3FC00000#32 = _
  simp [Ideal.ofBits, Ideal.ieee, -EReal.coe_mul]; norm_num

/-! ## The statistics -/

/-- The slice's sums over all rows are the real sums of the data. -/
structure Sums (X : SliceData) (sx : Vec Ideal S1x1x256 .f32) (sxx : Vec Ideal S1x256x256 .f32) : Prop where
  sx : ∀ j : Fin 256, sx (ix3 0 0 j) = ((∑ n, X n j : ℝ) : EReal)
  sxx : ∀ i j : Fin 256, sxx (ix3 0 i j) = ((∑ n, X n i * X n j : ℝ) : EReal)

variable {X : SliceData} {sx : Vec Ideal S1x1x256 .f32} {sxx : Vec Ideal S1x256x256 .f32}

/-- The means. -/
theorem mean_up (h : Sums X sx sxx) : meanRow sx = upRow fun j => (∑ n, X n j) * (1 / 16384) := by
  apply ext1; intro j
  rw [upRow_at, EReal.coe_mul, ← h.sx, ← c_rows_inv]
  pointwise [meanRow]

/-- The weighted covariance within the groups. -/
theorem cov_up (h : Sums X sx sxx) (v : EReal) : covMat v sx sxx = arr (covBig v X) := by
  apply ext2; intro i j
  rw [arr_at, ← cov_embed]
  unfold covMat
  rw [mean_up h, unit_up, group_up]
  simp only [EReal.coe_mul, EReal.coe_sub]
  rw [← h.sxx]
  pointwise [up, upRow]
  rw [Fin.sum_univ_one, c_rows_inv, c_eps, EReal.coe_mul, EReal.coe_mul]
  rfl

/-- The sums over the columns of a matrix. -/
theorem colSums_arr (f : Fin 256 → Fin 256 → EReal) : (shapeCast S1x256 (multiReduction .add [0] S256 (arr f) 0x00000000#32 reduces_S256x256_S256 (.inl rfl) rfl)
    shapeCasts_S256_S1x256 : FVec Ideal S1x256 .f32) = arrRow fun j => ∑ k, f k j := by
  apply ext1; intro j
  rw [arrRow_at]
  pointwise [arr]

/-- One over the trace of each channel's group. -/
theorem traceInv_up {v : EReal} (hv : Weight v) :
    traceInv (arr (covBig v X)) = upRow fun j => inv v (group X (grp j)) := by
  unfold traceInv
  rw [unit_up, group_up, mulf_arr, colSums_arr, rowMul_arr]
  apply ext1; intro j
  refine (show _ = Ideal.div (Ideal.ofBits .f32 0x3F800000#32) _ from rfl).trans ?_
  rw [Ideal.ofBits_one_f32, upRow_at, ← inv_coe hv]
  refine (congrArg (Ideal.div 1) (trace_embed v X j)).trans ?_
  rw [Ideal.div, if_neg (tr_ne hv _), one_mul]

/-- The square roots of a row. -/
theorem sqrt_up {a : Fin 256 → ℝ} (h : ∀ j, 0 ≤ a j) : sqrt (upRow a) = upRow fun j => Real.sqrt (a j) := by
  apply ext1; intro j
  pointwise [upRow]
  rw [Ideal.sqrt_coe, if_neg (not_lt.2 (h j))]

/-- The covariance divided by its trace, times minus one half. -/
theorem half_up {v : EReal} (hv : Weight v) :
    halfCov (arr (covBig v X)) = up (embed fun q => (-(1 / 2) : ℝ) • normed v (group X q)) := by
  unfold halfCov
  rw [traceInv_up hv, c_neg_half]
  have e : (mulf (broadcast S1x256 ((-(1 / 2) : ℝ) : EReal)) (upRow fun j => inv v (group X (grp j))) : FVec Ideal S1x256 .f32)
      = upRow fun j => -(1 / 2) * inv v (group X (grp j)) := by
    apply ext1; intro j
    rw [upRow_at, EReal.coe_mul]
    pointwise [upRow]
  rw [e, down_up, mulf_arr]
  apply ext2; intro i j
  rw [arr_at, up_at, Matrix.of_apply, half_embed hv]

/-- One step. -/
theorem newton_up (n p : Big) : newton (up n) (up p) = up (bigStep n p) := by
  unfold newton bigStep
  rw [c_three_halves, scale_up, mul_up, mul_up, mul_up, addf_up]

/-- Five steps. -/
theorem newton5_up (n : Big) : newton5 (up n) = up (bigSteps n) := by
  unfold newton5 bigSteps
  rw [unit_up, c_three_halves, scale_up, addf_up, newton_up, newton_up, newton_up, newton_up]

/-- The scaled whitening matrix of a slice is the real one. -/
theorem whitener_up (h : Sums X sx sxx) {v : EReal} (hv : Weight v) (w : Vec Ideal S1x1x256 .f32) (ω : Fin 256 → ℝ)
    (hw : ∀ j : Fin 256, w (ix3 0 0 j) = ((ω j : ℝ) : EReal)) :
    whitener (covMat v sx sxx) w = up (wm v X ω) := by
  have ew : (shapeCast S1x256 w shapeCasts_S1x1x256_S1x256 : FVec Ideal S1x256 .f32) = upRow ω := by
    apply ext1; intro j
    rw [upRow_at, ← hw]
    pointwise
  unfold whitener
  rw [cov_up h, half_up hv, newton5_up, bigSteps_embed, traceInv_up hv,
    sqrt_up (fun j => inv_nonneg hv _), ew, down_up, down_up, mulf_up, mulf_up]
  rfl

/-- The matrix which the rows are multiplied with, entry by entry. -/
theorem weightMat_at (h : Sums X sx sxx) {v : EReal} (hv : Weight v) (w : Vec Ideal S1x1x256 .f32) (ω : Fin 256 → ℝ)
    (hw : ∀ j : Fin 256, w (ix3 0 0 j) = ((ω j : ℝ) : EReal)) (a : ℝ) (i j : Fin 256) :
    weightMat ((a : ℝ) : EReal) v sx sxx w (ix3 0 i j) = ((a * wm v X ω i j : ℝ) : EReal) := by
  unfold weightMat
  rw [whitener_up h hv w ω hw, scale_up]
  pointwise [up]
  rfl

/-- The same matrix in the shorter format, entry by entry. -/
theorem weightMat16_at (h : Sums X sx sxx) {v : EReal} (hv : Weight v) (w : Vec Ideal S1x1x256 .f32) (ω : Fin 256 → ℝ)
    (hw : ∀ j : Fin 256, w (ix3 0 0 j) = ((ω j : ℝ) : EReal)) (a : ℝ) (i j : Fin 256) :
    weightMat16 ((a : ℝ) : EReal) v sx sxx w (ix3 0 i j) = ((a * wm v X ω i j : ℝ) : EReal) := by
  unfold weightMat16
  rw [whitener_up h hv w ω hw, scale_up]
  pointwise [up]
  rfl

/-- The row which is added, entry by entry. -/
theorem biasRow_at (h : Sums X sx sxx) {v : EReal} (hv : Weight v) (w bias : Vec Ideal S1x1x256 .f32) (ω : Fin 256 → ℝ)
    (hw : ∀ j : Fin 256, w (ix3 0 0 j) = ((ω j : ℝ) : EReal)) (b : ℝ) (j : Fin 256) :
    biasRow ((b : ℝ) : EReal) v sx sxx w bias (ix3 0 0 j)
      = bias (ix3 0 0 j) - ((b * ∑ i, (∑ n, X n i) * (1 / 16384) * wm v X ω i j : ℝ) : EReal) := by
  unfold biasRow
  rw [whitener_up h hv w ω hw, mean_up h, rowMul_up, EReal.coe_mul]
  pointwise [upRow]

end Cert.KernelIdeal.Value

end
-- ==== Proof.Math.RowSums.lean ====
module

public import Mathlib.Data.Real.Basic
public import Mathlib.Algebra.BigOperators.Fin
public import Mathlib.Algebra.BigOperators.Intervals

/-! # A sum over all rows, taken a block of rows at a time -/

@[expose] public section

noncomputable section

namespace Cert.White

/-- The value at a row number, zero past the last row. -/
def padded (f : Fin 16384 → ℝ) (k : ℕ) : ℝ := if h : k < 16384 then f ⟨k, h⟩ else 0

/-- The sum over the first `n` blocks of 1024 rows. -/
def blockSum (f : Fin 16384 → ℝ) (n : ℕ) : ℝ := ∑ k ∈ Finset.range (n * 1024), padded f k

/-- No block. -/
theorem blockSum_zero (f : Fin 16384 → ℝ) : blockSum f 0 = 0 := by simp [blockSum]

/-- One more block. -/
theorem blockSum_succ (f : Fin 16384 → ℝ) (n : ℕ) (hn : n < 16) :
    blockSum f (n + 1) = blockSum f n + ∑ r : Fin 1024, f ⟨n * 1024 + r.val, by omega⟩ := by
  unfold blockSum
  rw [Nat.succ_mul, Finset.sum_range_add, Finset.sum_range (fun x => padded f (n * 1024 + x))]
  refine congrArg _ (Finset.sum_congr rfl fun r _ => ?_)
  exact dif_pos (by omega)

/-- All sixteen blocks. -/
theorem blockSum_all (f : Fin 16384 → ℝ) : blockSum f 16 = ∑ n, f n := by
  unfold blockSum
  rw [Finset.sum_range]
  refine Finset.sum_congr rfl fun n _ => ?_
  exact dif_pos (by omega)

end Cert.White

end
-- ==== Proof.Value.Sums.lean ====
module

public import proofs.«01_k».proof.Proof.Value.Inputs
public import proofs.«01_k».proof.Proof.Value.Slice
public import proofs.«01_k».proof.Proof.Math.RowSums

@[expose] public section

set_option maxRecDepth 16384

noncomputable section

namespace Cert.KernelIdeal.Value

open Cert.KernelIdeal Cert.KernelIdeal.Gen Cert.KernelIdeal.Body Cert.KernelIdeal.Sweep Cert.White
open Idealize.ShloMosaic Idealize.ShloMosaic.TcCoe Idealize.ShloMosaic.Tactic

variable (m : (ℓ : Loc nD τ sig) → Buf (Elt Ideal) ℓ) (c : Dev nD)

/-! # The sums the kernel gathers are the sums over all rows -/

/-! ## Reading a slice -/

section Read

variable {F : FTy → Type} [FloatOps F] {e : EltTy}

/-- An entry of a slice of a block of rows. -/
theorem colAt_at (x : Vec F S1024x2048 e) (s : Fin 8) (r : Fin 1024) (j : Fin 256) : colAt x s (ix2 r j) = x (ix2 r (chan s j)) := by
  refine congrArg x (funext fun a => ?_)
  match a with
  | ⟨0, _⟩ => exact Fin.ext (by show 0 + 1 * r.val = r.val; omega)
  | ⟨1, _⟩ => exact Fin.ext (by show 256 * s.val + 1 * j.val = s.val * 256 + j.val; omega)

/-- An entry of a slice's matrix. -/
theorem slabAt_at (x : Vec F S8x256x256 e) (s : Fin 8) (i j : Fin 256) : slabAt x s (ix3 0 i j) = x (ix3 s i j) := by
  refine congrArg x (funext fun a => ?_)
  match a with
  | ⟨0, _⟩ => exact Fin.ext (by show s.val + 1 * 0 = s.val; omega)
  | ⟨1, _⟩ => exact Fin.ext (by show 0 + 1 * i.val = i.val; omega)
  | ⟨2, _⟩ => exact Fin.ext (by show 0 + 1 * j.val = j.val; omega)

/-- An entry of a slice's row. -/
theorem rowAt_at (x : Vec F S8x1x256 e) (s : Fin 8) (j : Fin 256) : rowAt x s (ix3 0 0 j) = x (ix3 s 0 j) := by
  refine congrArg x (funext fun a => ?_)
  match a with
  | ⟨0, _⟩ => exact Fin.ext (by show s.val + 1 * 0 = s.val; omega)
  | ⟨1, _⟩ => exact Fin.ext (by show 0 + 1 * 0 = 0; omega)
  | ⟨2, _⟩ => exact Fin.ext (by show 0 + 1 * j.val = j.val; omega)

end Read

/-! ## One more block -/

/-- One block more of the sums of products, entry by entry. -/
theorem addSquares_at (x : Vec Ideal S1024x256 .f32) (q : Vec Ideal S1x256x256 .f32) (i j : Fin 256) :
    addSquares x q (ix3 0 i j) = q (ix3 0 i j) + ∑ r : Fin 1024, x (ix2 r i) * x (ix2 r j) := by
  pointwise [addSquares, k0_pay4]

/-- One block more of the sums of the rows, entry by entry. -/
theorem addRows_at (x : Vec Ideal S1024x256 .f32) (q : Vec Ideal S1x1x256 .f32) (j : Fin 256) :
    addRows x q (ix3 0 0 j) = q (ix3 0 0 j) + ∑ r : Fin 1024, x (ix2 r j) := by
  pointwise [addRows, k0_pay5]

/-- The same in all slices. -/
theorem squaresBlock_ix (x : Vec Ideal S1024x2048 .f32) (q : Vec Ideal S8x256x256 .f32) (s : Fin 8) (i j : Fin 256) :
    squaresBlock x q (ix3 s i j) = q (ix3 s i j) + ∑ r : Fin 1024, x (ix2 r (chan s i)) * x (ix2 r (chan s j)) := by
  refine (addSquares_at (colAt x s) (slabAt q s) i j).trans ?_
  rw [slabAt_at]
  exact congrArg _ (Finset.sum_congr rfl fun r _ => by rw [colAt_at, colAt_at])

/-- The same in all slices. -/
theorem rowsBlock_ix (x : Vec Ideal S1024x2048 .f32) (q : Vec Ideal S8x1x256 .f32) (s : Fin 8) (j : Fin 256) :
    rowsBlock x q (ix3 s 0 j) = q (ix3 s 0 j) + ∑ r : Fin 1024, x (ix2 r (chan s j)) := by
  refine (addRows_at (colAt x s) (rowAt q s) j).trans ?_
  rw [rowAt_at]
  exact congrArg _ (Finset.sum_congr rfl fun r _ => by rw [colAt_at])

/-- The sums of products start at zero, -/
theorem zeroSlabs_at (s : Fin 8) (i j : Fin 256) : zeroSlabs (F := Ideal) (ix3 s i j) = 0 := by
  pointwise [zeroSlabs, k0_pay137]

/-- and so do the sums of the rows. -/
theorem zeroRows_at (s : Fin 8) (j : Fin 256) : zeroRows (F := Ideal) (ix3 s 0 j) = 0 := by
  pointwise [zeroRows, k0_pay138]

/-! ## All blocks -/

variable {m c} {x : Fin 16384 → Fin 2048 → ℝ} (hx : ∀ n k, argX m c (ix2 n k) = ((x n k : ℝ) : EReal))

include hx

/-- The block of rows in hand, as real numbers. -/
theorem xblk_real (n : ℕ) (hn : n < 16) (h : n < cfg0.N) (r : Fin 1024) (k : Fin 2048) :
    (iblk m c 1 ⟨n, h⟩ : Vec Ideal S1024x2048 .f32) (ix2 r k) = ((x (rowNo n hn r) k : ℝ) : EReal) :=
  (xblk m c ⟨n, h⟩ n hn (if_pos hn) r k).trans (hx _ _)

/-- The sums of products after `n` blocks. -/
theorem sq_at (s : Fin 8) (i j : Fin 256) : ∀ (n : ℕ) (h : n ≤ cfg0.N), n ≤ 16 →
    sq m c n h (ix3 s i j) = ((blockSum (fun n => x n (chan s i) * x n (chan s j)) n : ℝ) : EReal)
  | 0, _, _ => by rw [blockSum_zero]; exact zeroSlabs_at s i j
  | n + 1, h, hn => by
    refine (squaresBlock_ix _ _ s i j).trans ?_
    rw [sq_at s i j n (Nat.le_of_succ_le h) (by omega), blockSum_succ _ n (by omega), EReal.coe_add, coe_sum]
    refine congrArg _ (Finset.sum_congr rfl fun r _ => ?_)
    rw [xblk_real hx n (by omega) h, xblk_real hx n (by omega) h, EReal.coe_mul]

/-- The sums of the rows after `n` blocks. -/
theorem rs_at (s : Fin 8) (j : Fin 256) : ∀ (n : ℕ) (h : n ≤ cfg0.N), n ≤ 16 →
    rs m c n h (ix3 s 0 j) = ((blockSum (fun n => x n (chan s j)) n : ℝ) : EReal)
  | 0, _, _ => by rw [blockSum_zero]; exact zeroRows_at s j
  | n + 1, h, hn => by
    refine (rowsBlock_ix _ _ s j).trans ?_
    rw [rs_at s j n (Nat.le_of_succ_le h) (by omega), blockSum_succ _ n (by omega), EReal.coe_add, coe_sum]
    refine congrArg _ (Finset.sum_congr rfl fun r _ => ?_)
    rw [xblk_real hx n (by omega) h]

omit hx in
/-- The data of a slice. -/
def sliceOf (x : Fin 16384 → Fin 2048 → ℝ) (s : Fin 8) : SliceData := fun n j => x n (chan s j)

/-- The sums the kernel has gathered after its sixteenth position are the sums over all rows. -/
theorem sums_all (s : Fin 8) (h : 16 ≤ cfg0.N) : Sums (sliceOf x s) (rowAt (rs m c 16 h) s) (slabAt (sq m c 16 h) s) where
  sx j := by
    rw [rowAt_at, rs_at hx s j 16 h le_rfl, blockSum_all]; rfl
  sxx i j := by
    rw [slabAt_at, sq_at hx s i j 16 h le_rfl, blockSum_all]; rfl

end Cert.KernelIdeal.Value

end
-- ==== Proof.Value.Output.lean ====
module

public import proofs.«01_k».proof.Proof.Value.Sums
public import proofs.«01_k».proof.Proof.Sweep.Run

@[expose] public section

set_option maxRecDepth 16384

noncomputable section

namespace Cert.KernelIdeal.Value

open Cert.KernelIdeal Cert.KernelIdeal.Gen Cert.KernelIdeal.Body Cert.KernelIdeal.Sweep Cert.White
open Idealize.ShloMosaic Idealize.ShloMosaic.TcCoe Idealize.ShloMosaic.Tactic

variable (m : (ℓ : Loc nD τ sig) → Buf (Elt Ideal) ℓ) (c : Dev nD)

/-! # What the kernel leaves in the result's array -/

/-- The arguments as numbers: the data, the weights and the two numbers made of the mean weights are real; the number made of the
    variance weights is what a softmax weight can be. -/
structure Reals (x : Fin 16384 → Fin 2048 → ℝ) (w : Fin 2048 → ℝ) (a b : ℝ) (v : EReal) : Prop where
  hx : ∀ n k, argX m c (ix2 n k) = ((x n k : ℝ) : EReal)
  hw : ∀ k, argW m c (ix1 k) = ((w k : ℝ) : EReal)
  ha : scal m c (ix1 0) = ((a : ℝ) : EReal)
  hb : scal m c (ix1 1) = ((b : ℝ) : EReal)
  hv : scal m c (ix1 2) = v
  weight : Weight v

/-- The weights of a slice. -/
def sliceW (w : Fin 2048 → ℝ) (s : Fin 8) : Fin 256 → ℝ := fun j => w (chan s j)

variable {m c} {x : Fin 16384 → Fin 2048 → ℝ} {w : Fin 2048 → ℝ} {a b : ℝ} {v : EReal}

/-- A slice of the channels' weights. -/
theorem weights_at (H : Reals m c x w a b v) (t : Fin cfg0.N) (s : Fin 8) (j : Fin 256) :
    rowAt (iblk m c 2 t : Vec Ideal S8x1x256 .f32) s (ix3 0 0 j) = ((sliceW w s j : ℝ) : EReal) := by
  rw [rowAt_at, wblk, H.hw]
  rfl

/-- The prepared matrices. -/
theorem wAll_at (H : Reals m c x w a b v) (s : Fin 8) (i j : Fin 256) :
    wAll m c (ix3 s i j) = ((a * wm v (sliceOf x s) (sliceW w s) i j : ℝ) : EReal) := by
  unfold wAll
  rw [H.ha, H.hv]
  exact weightMat_at (sums_all H.hx s _) H.weight _ _ (weights_at H last s) a i j

/-- The prepared matrices in the shorter format: the same numbers. -/
theorem w16All_at (H : Reals m c x w a b v) (s : Fin 8) (i j : Fin 256) :
    w16All m c (ix3 s i j) = ((a * wm v (sliceOf x s) (sliceW w s) i j : ℝ) : EReal) := by
  unfold w16All
  rw [H.ha, H.hv]
  exact weightMat16_at (sums_all H.hx s _) H.weight _ _ (weights_at H last s) a i j

/-- The prepared rows. -/
theorem bAll_at (H : Reals m c x w a b v) (s : Fin 8) (j : Fin 256) :
    bAll m c (ix3 s 0 j) = argB m c (ix1 (chan s j))
      - ((b * ∑ i, (∑ n, sliceOf x s n i) * (1 / 16384) * wm v (sliceOf x s) (sliceW w s) i j : ℝ) : EReal) := by
  unfold bAll
  rw [H.hb, H.hv]
  refine (biasRow_at (sums_all H.hx s _) H.weight _ _ _ (weights_at H last s) b j).trans ?_
  exact congrArg (· - _) ((rowAt_at _ s j).trans (bblk m c last s j))

/-! ## A block of the result -/

/-- Rows times a matrix plus a row, entry by entry. -/
theorem applied_at (x : Vec Ideal S1024x256 .f32) (w : Vec Ideal S1x256x256 .f32) (b : Vec Ideal S1x1x256 .f32) (r : Fin 1024) (j : Fin 256) :
    applied x w b (ix2 r j) = (∑ i : Fin 256, x (ix2 r i) * w (ix3 0 i j)) + b (ix3 0 0 j) := by
  pointwise [applied, k0_pay98]

/-- The same from rows in the shorter format. -/
theorem applied16_at (x : Vec Ideal S1024x256 .bf16) (w : Vec Ideal S1x256x256 .bf16) (b : Vec Ideal S1x1x256 .f32) (r : Fin 1024) (j : Fin 256) :
    applied16 x w b (ix2 r j) = (∑ i : Fin 256, x (ix2 r i) * w (ix3 0 i j)) + b (ix3 0 0 j) := by
  pointwise [applied16, k0_pay1]

/-- Eight slices side by side, seen in one of them. -/
theorem glueCols_ix {e : EltTy} (f : Fin 8 → Vec Ideal S1024x256 e) (s : Fin 8) (r : Fin 1024) (j : Fin 256) :
    glueCols f (ix2 r (chan s j)) = f s (ix2 r j) := by
  have h : (ix2 r (chan s j) : S1024x2048.Idx) = (colR s).emb (ix2 r j) := funext fun a => by
    match a with
    | ⟨0, _⟩ => exact Fin.ext (by show r.val = 0 + 1 * r.val; omega)
    | ⟨1, _⟩ => exact Fin.ext (by show s.val * 256 + j.val = 256 * s.val + 1 * j.val; omega)
  rw [h]
  exact glueCols_at f s (ix2 r j)

/-- A block of the result at a row and a channel, from the row's entries and the matrix's entries. -/
theorem applyBlock_of (x : Vec Ideal S1024x2048 .f32) (w : Vec Ideal S8x256x256 .f32) (b : Vec Ideal S8x1x256 .f32) (s : Fin 8) (r : Fin 1024)
    (j : Fin 256) (p q : Fin 256 → EReal) (hp : ∀ i, x (ix2 r (chan s i)) = p i) (hq : ∀ i, w (ix3 s i j) = q i) :
    applyBlock x w b (ix2 r (chan s j)) = (∑ i : Fin 256, p i * q i) + b (ix3 s 0 j) := by
  unfold applyBlock
  rw [glueCols_ix, applied_at, rowAt_at]
  exact congrArg (· + _) (Finset.sum_congr rfl fun i _ => by rw [colAt_at, slabAt_at, hp, hq])

/-- The same from rows kept in the shorter format. -/
theorem applyBlock16_of (x : Vec Ideal S1024x2048 .bf16) (w : Vec Ideal S8x256x256 .bf16) (b : Vec Ideal S8x1x256 .f32) (s : Fin 8) (r : Fin 1024)
    (j : Fin 256) (p q : Fin 256 → EReal) (hp : ∀ i, x (ix2 r (chan s i)) = p i) (hq : ∀ i, w (ix3 s i j) = q i) :
    applyBlock16 x w b (ix2 r (chan s j)) = (∑ i : Fin 256, p i * q i) + b (ix3 s 0 j) := by
  unfold applyBlock16
  rw [glueCols_ix, applied16_at, rowAt_at]
  exact congrArg (· + _) (Finset.sum_congr rfl fun i _ => by rw [colAt_at, slabAt_at, hp, hq])

/-- The difference of two real numbers plus a third number, with the third number first met by the second. -/
theorem add_sub_real (p q : ℝ) (z : EReal) : ((p : ℝ) : EReal) + (z - ((q : ℝ) : EReal)) = ((p - q : ℝ) : EReal) + z := by
  rw [EReal.coe_sub, sub_eq_add_neg, sub_eq_add_neg, add_comm z, add_assoc]

/-- The value of the result at a row and a channel of a slice. -/
def valueAt (x : Fin 16384 → Fin 2048 → ℝ) (w : Fin 2048 → ℝ) (a b : ℝ) (v : EReal) (n : Fin 16384) (s : Fin 8) (j : Fin 256) : ℝ :=
  rowOut a b v (group (sliceOf x s) (grp j)) n (plc j) * sliceW w s j

/-- A row times the prepared matrix plus the prepared row is the result's value plus the bias. -/
theorem line_at (H : Reals m c x w a b v) (n : Fin 16384) (s : Fin 8) (j : Fin 256) :
    (∑ i : Fin 256, ((x n (chan s i) : ℝ) : EReal) * ((a * wm v (sliceOf x s) (sliceW w s) i j : ℝ) : EReal)) + bAll m c (ix3 s 0 j)
      = ((valueAt x w a b v n s j : ℝ) : EReal) + argB m c (ix1 (chan s j)) := by
  rw [bAll_at H]
  simp only [← EReal.coe_mul, ← coe_sum]
  rw [add_sub_real]
  exact congrArg (fun r : ℝ => (r : EReal) + _) (slice_out a b v (sliceOf x s) (sliceW w s) n j)

/-- The shorter format holds the same numbers. -/
theorem short_at (x : Vec Ideal S1024x2048 .f32) (y : S1024x2048.Idx) : short x y = x y := rfl

/-- The block of rows in hand is the one whose result is stored, -/
theorem xrow_here {t : ℕ} (ht : 16 ≤ t) (h : t = 16 ∨ 21 ≤ t) : xrow t = orow t := by
  unfold xrow orow
  rcases h with rfl | h
  · rfl
  · rw [if_neg (by omega), if_neg (by omega), if_neg (by omega), if_neg (by omega)]

/-- or it was in hand, and kept, when the sums were gathered. -/
theorem xrow_kept {t : ℕ} (ht : 16 ≤ t) (h : ¬(t = 16 ∨ 21 ≤ t)) : xrow (31 - t) = orow t := by
  unfold xrow orow
  rw [if_pos (by omega), if_neg (by omega), if_pos (by omega)]

/-- The block stored at a position of the second half. -/
theorem outAt_at (H : Reals m c x w a b v) (t : Fin cfg0.N) (ht : 16 ≤ t.val) (k : ℕ) (hk : k < 16) (ho : orow t.val = k)
    (r : Fin 1024) (s : Fin 8) (j : Fin 256) :
    outAt m c t (ix2 r (chan s j)) = ((valueAt x w a b v (rowNo k hk r) s j : ℝ) : EReal) + argB m c (ix1 (chan s j)) := by
  refine Eq.trans ?_ (line_at H (rowNo k hk r) s j)
  unfold outAt
  split_ifs with h
  · exact applyBlock_of _ _ _ s r j _ _
      (fun i => (xblk m c t k hk ((xrow_here ht h).trans ho) r (chan s i)).trans (H.hx _ _)) (fun i => wAll_at H s i j)
  · have hN : cfg0.N = 32 := N_0
    have h31 : 31 - t.val < cfg0.N := lt_of_lt_of_eq (Nat.lt_of_le_of_lt (Nat.sub_le 31 t.val) (by decide : 31 < 32)) hN.symm
    have hX : ∀ i, short (iblk m c 1 ⟨31 - t.val, h31⟩ : Vec Ideal S1024x2048 .f32) (ix2 r (chan s i)) = ((x (rowNo k hk r) (chan s i) : ℝ) : EReal) :=
      fun i => (short_at _ _).trans ((xblk m c ⟨31 - t.val, h31⟩ k hk ((xrow_kept ht h).trans ho) r (chan s i)).trans (H.hx _ _))
    exact applyBlock16_of _ _ _ s r j _ _ hX (fun i => w16All_at H s i j)

/-- The slice of a channel, -/
abbrev slc (k : Fin 2048) : Fin 8 := ⟨k.val / 256, by omega⟩
/-- and its place there. -/
abbrev lane (k : Fin 2048) : Fin 256 := ⟨k.val % 256, by omega⟩

/-- A channel is made from its slice and its place there. -/
theorem chan_slc (k : Fin 2048) : chan (slc k) (lane k) = k := Fin.ext (by show k.val / 256 * 256 + k.val % 256 = k.val; omega)

/-- The result's array at the end. -/
def result (x : Fin 16384 → Fin 2048 → ℝ) (w : Fin 2048 → ℝ) (a b : ℝ) (v : EReal) (bias : Vec Ideal S2048 .f32) : Vec Ideal S16384x2048 .f32 := fun y =>
  ((valueAt x w a b v (y 0) (slc (y 1)) (lane (y 1)) : ℝ) : EReal) + bias (ix1 (y 1))

/-- The result's array at the end of the run: every row block is stored by exactly the position that has it in hand. -/
theorem final (H : Reals m c x w a b v) : (dats m 0 c).arrAt 4 (cfgs 0).N = result x w a b v (argB m c) := by
  refine (dats m 0 c).arrAt_eq_of_covers 4 _ (by decide +kernel) fun t hf y => ?_
  have ht : 16 ≤ t.val := by
    by_contra h
    exact absurd hf (by rw [flush_early t (by omega)]; decide)
  blk_simp [idx t]
  rw [after_4]
  have hy0 : (y 0).val < 1024 := (y 0).isLt
  have hy1 : (y 1).val < 2048 := (y 1).isLt
  have hN : cfg0.N = 32 := N_0
  have htN : t.val < 32 := hN ▸ t.isLt
  have hk : orow t.val < 16 := by
    unfold orow; split_ifs <;> omega
  have e : (y : S1024x2048.Idx) = ix2 ⟨(y 0).val, hy0⟩ (chan (slc ⟨(y 1).val, hy1⟩) (lane ⟨(y 1).val, hy1⟩)) := funext fun a => by
    match a with
    | ⟨0, _⟩ => rfl
    | ⟨1, _⟩ => exact Fin.ext (by show (y 1).val = (y 1).val / 256 * 256 + (y 1).val % 256; omega)
  have e' : ((win0_4.blk t).view.emb y : S16384x2048.Idx) = ix2 (rowNo (orow t.val) hk ⟨(y 0).val, hy0⟩) ⟨(y 1).val, hy1⟩ := by
    blk_ext [idx t]
  refine (congrArg (outAt m c t) e).trans ((outAt_at H t ht _ hk rfl _ _ _).trans ?_)
  refine Eq.trans ?_ (congrArg (result x w a b v (argB m c)) e').symm
  unfold result
  rw [chan_slc]
  rfl

end Cert.KernelIdeal.Value

end
-- ==== Proof.Value.Softmax.lean ====
module

public import proofs.«01_k».proof.Proof.Value.Inputs
public import proofs.«01_k».proof.Proof.Value.Matrix
public import Idealize.ShloMosaic.Lib.StableHlo.RunRead

@[expose] public section

set_option maxRecDepth 16384

noncomputable section

namespace Cert.KernelIdeal.Value

open Cert.KernelIdeal Cert.KernelIdeal.Gen Cert.KernelIdeal.Body Cert.KernelIdeal.Sweep
open Idealize.ShloMosaic Idealize.ShloMosaic.TcCoe Idealize.ShloMosaic.Tactic

variable (m : (ℓ : Loc nD τ sig) → Buf (Elt Ideal) ℓ) (c : Dev nD)

/-! # The softmax of two numbers, and the three numbers the kernel is given -/

/-- The exponentials, with the larger number taken off. -/
def expo (u : FVec Ideal S2 .f32) : FVec Ideal S2 .f32 :=
  Host.exp (subf u (broadcastInDim S2 ![0] bcast_S1_S2_0 (broadcastInDim S1 ![] bcast_S_S1 (maximumf (constant S_ .f32 0xFF800000#32)
    (Host.reduce FloatOps.maximumf u (constant S_ .f32 0xFF800000#32) reducesTo_S2_S_d0 h_S_)))))

/-- The softmax of two numbers as both programs compute it. -/
def soft (u : FVec Ideal S2 .f32) : FVec Ideal S2 .f32 :=
  Host.divf (expo u) (broadcastInDim S2 ![0] bcast_S1_S2_0 (broadcastInDim S1 ![] bcast_S_S1
    (Host.reduceAdd (expo u) (constant S_ .f32 0x00000000#32) reducesTo_S2_S_d0 h_S_)))

/-- The mean weights before the softmax, -/
abbrev argM : FVec Ideal S2 .f32 := m ((c : Thread nD τ).loc main_arg1)
/-- and the variance weights. -/
abbrev argV : FVec Ideal S2 .f32 := m ((c : Thread nD τ).loc main_arg2)

section Line

open Idealize.ShloMosaic.StableHlo

variable (σ : Valuation τ sig (Elt Ideal))

/-! The operations before the launch leave the softmax of the two pairs of weights, read at three points of the line. -/

/-- The softmax of the mean weights, where its second number is taken. -/
theorem mean_soft_26 : upto hostOps0 σ 26 (no_index (Proc.devRef .tc main_v9)) = soft (σ (Proc.devRef .tc main_arg1)) := by
  after_reads_simp
  rfl

/-- The softmax of the mean weights, where its first number is taken. -/
theorem mean_soft_30 : upto hostOps0 σ 30 (no_index (Proc.devRef .tc main_v9)) = soft (σ (Proc.devRef .tc main_arg1)) := by
  after_reads_simp
  rfl

/-- The softmax of the variance weights. -/
theorem var_soft_32 : upto hostOps0 σ 32 (no_index (Proc.devRef .tc main_v19)) = soft (σ (Proc.devRef .tc main_arg2)) := by
  after_reads_simp
  rfl

/-- The first number: one minus the second mean weight. -/
theorem part_0 : upto hostOps0 σ 37 (Proc.devRef .tc main_v27) = broadcastInDim S1 ![] bcast_S_S1 (subf (constant (F := Ideal) S_ .f32 0x3F800000#32)
    (shapeCast S_ (extractStridedSlice S1 ![1] (soft (σ (Proc.devRef .tc main_arg1))) slices_S2_S1_1) shapeCasts_S1_S_)) := by
  after_reads_simp [mean_soft_26]
  rfl

/-- The second number: the first mean weight. -/
theorem part_1 : upto hostOps0 σ 37 (Proc.devRef .tc main_v28) = broadcastInDim S1 ![] bcast_S_S1
    (shapeCast S_ (extractStridedSlice S1 ![0] (soft (σ (Proc.devRef .tc main_arg1))) slices_S2_S1_0) shapeCasts_S1_S_) := by
  after_reads_simp [mean_soft_30]
  rfl

/-- The third number: the first variance weight. -/
theorem part_2 : upto hostOps0 σ 37 (Proc.devRef .tc main_v29) = broadcastInDim S1 ![] bcast_S_S1
    (shapeCast S_ (extractStridedSlice S1 ![0] (soft (σ (Proc.devRef .tc main_arg2))) slices_S2_S1_0) shapeCasts_S1_S_) := by
  after_reads_simp [var_soft_32]
  rfl

/-- The three numbers side by side. -/
theorem scal_line : after hostOps0 σ (Proc.devRef .tc main_v30) = concatenate S3 0
    [⟨S1, (upto hostOps0 σ 37 (Proc.devRef .tc main_v27) : FVec Ideal S1 .f32)⟩, ⟨S1, (upto hostOps0 σ 37 (Proc.devRef .tc main_v28) : FVec Ideal S1 .f32)⟩,
      ⟨S1, (upto hostOps0 σ 37 (Proc.devRef .tc main_v29) : FVec Ideal S1 .f32)⟩] concatenates_S1_S1_S1_S3_d0 := by
  after_reads_simp
  rfl

end Line

/-- The block of the three numbers is the whole of them. -/
theorem scal_eq (i : Fin 3) : scal m c (ix1 i) = (V m c main_v30 : FVec Ideal S3 .f32) (ix1 i) := by
  unfold scal
  blk_ext [iblk, idx last]

/-- The first number the kernel is given. -/
theorem scal_0 : scal m c (ix1 0) = 1 - soft (argM m c) (ix1 1) := by
  rw [scal_eq]
  refine (congrFun (scal_line _) _).trans ?_
  rw [part_0, part_1, part_2]
  generalize soft _ = u
  generalize soft _ = v
  pointwise

/-- The second number the kernel is given. -/
theorem scal_1 : scal m c (ix1 1) = soft (argM m c) (ix1 0) := by
  rw [scal_eq]
  refine (congrFun (scal_line _) _).trans ?_
  rw [part_0, part_1, part_2]
  generalize soft _ = u
  generalize soft _ = v
  pointwise

/-- The third number the kernel is given. -/
theorem scal_2 : scal m c (ix1 2) = soft (argV m c) (ix1 0) := by
  rw [scal_eq]
  refine (congrFun (scal_line _) _).trans ?_
  rw [part_0, part_1, part_2]
  generalize soft _ = u
  generalize soft _ = v
  pointwise

/-- The larger of two numbers, as both programs compute it. -/
theorem fold_two (u : Fin 2 → EReal) : max (Ideal.ofBits FTy.f32 4286578688#32)
    (Finset.fold max (Ideal.ofBits FTy.f32 4286578688#32) u Finset.univ) = max (u 0) (u 1) := by
  have hb : Ideal.ofBits FTy.f32 4286578688#32 = (⊥ : EReal) := by
    simp [Ideal.ofBits, Ideal.ieee]
  rw [hb, Fin.univ_succ]
  simp only [Fin.univ_succ, Finset.fold_cons, Finset.fold_map, Finset.univ_eq_empty, Finset.map_empty, Finset.cons_empty]
  simp

/-- A number of a softmax: its exponential over the sum of the two, the larger number taken off first. -/
theorem soft_at (u : FVec Ideal S2 .f32) (i : Fin 2) : soft u (ix1 i)
    = Ideal.div (Ideal.exp (u (ix1 i) - max (u (ix1 0)) (u (ix1 1))))
      (∑ k : Fin 2, Ideal.exp (u (ix1 k) - max (u (ix1 0)) (u (ix1 1)))) := by
  pointwise [soft, expo]
  rw [fold_two fun k => u (ix1 k)]

/-- With the larger number real, both exponentials are real, and their sum is positive. -/
theorem exps_real (a b : EReal) (r : ℝ) (h : max a b = ((r : ℝ) : EReal)) :
    ∃ p q : ℝ, 0 ≤ p ∧ 0 ≤ q ∧ 0 < p + q ∧ Ideal.exp (a - (r : EReal)) = (p : EReal) ∧ Ideal.exp (b - (r : EReal)) = (q : EReal) := by
  have one : ∀ z : EReal, z ≤ (r : EReal) → ∃ p : ℝ, 0 ≤ p ∧ (z = (r : EReal) → 0 < p) ∧ Ideal.exp (z - (r : EReal)) = (p : EReal) := by
    intro z hz
    induction z with
    | bot => exact ⟨0, le_rfl, fun h => absurd h (EReal.bot_ne_coe r), by rw [EReal.bot_sub, Ideal.exp_bot, EReal.coe_zero]⟩
    | top => exact absurd (top_le_iff.1 hz) (EReal.coe_ne_top r)
    | coe s => exact ⟨Real.exp (s - r), (Real.exp_pos _).le, fun _ => Real.exp_pos _, by rw [← EReal.coe_sub, Ideal.exp_coe]⟩
  obtain ⟨p, hp, hp', ep⟩ := one a (h ▸ le_max_left a b)
  obtain ⟨q, hq, hq', eq⟩ := one b (h ▸ le_max_right a b)
  refine ⟨p, q, hp, hq, ?_, ep, eq⟩
  rcases max_choice a b with e | e
  · exact add_pos_of_pos_of_nonneg (hp' (e.symm.trans h)) hq
  · exact add_pos_of_nonneg_of_pos hp (hq' (e.symm.trans h))

/-- The softmax of two numbers, the larger of them real: real and not negative. -/
theorem soft_real_of_max (u : FVec Ideal S2 .f32) (r : ℝ) (h : max (u (ix1 0)) (u (ix1 1)) = ((r : ℝ) : EReal)) (i : Fin 2) :
    ∃ t : ℝ, 0 ≤ t ∧ soft u (ix1 i) = (t : EReal) := by
  obtain ⟨p, q, hp, hq, hs, ep, eq⟩ := exps_real _ _ r h
  have hi : ∃ e : ℝ, 0 ≤ e ∧ Ideal.exp (u (ix1 i) - (r : EReal)) = (e : EReal) := by
    match i with
    | 0 => exact ⟨p, hp, ep⟩
    | 1 => exact ⟨q, hq, eq⟩
  obtain ⟨e, he, ee⟩ := hi
  rw [soft_at, h, Fin.sum_univ_two, ep, eq, ee, ← EReal.coe_add, Ideal.div_coe hs.ne', ← EReal.coe_mul]
  exact ⟨_, mul_nonneg he (one_div_nonneg.2 hs.le), rfl⟩

/-- The softmax of two numbers, whatever they are: real and not negative, or, the larger of them infinite, the lower infinity. -/
theorem soft_weight (u : FVec Ideal S2 .f32) (i : Fin 2) : Cert.White.Weight (soft u (ix1 i)) := by
  have off : (∀ k : Fin 2, u (ix1 k) - max (u (ix1 0)) (u (ix1 1)) = ⊥) → soft u (ix1 i) = ⊥ := by
    intro h
    rw [soft_at, Fin.sum_univ_two, h, h, h, Ideal.exp_bot, add_zero, Ideal.div, if_pos rfl, if_neg (lt_irrefl _)]
  obtain ⟨M, hM⟩ : ∃ M : EReal, max (u (ix1 0)) (u (ix1 1)) = M := ⟨_, rfl⟩
  induction M with
  | bot =>
    refine Or.inl (off fun k => ?_)
    obtain ⟨h0, h1⟩ := max_eq_bot.1 hM
    match k with
    | 0 => rw [h0, EReal.bot_sub]
    | 1 => rw [h1, EReal.bot_sub]
  | top => exact Or.inl (off fun k => by rw [hM, EReal.sub_top])
  | coe r => exact Or.inr (soft_real_of_max u r hM i)

/-- The softmax of two real numbers: real and not negative. -/
theorem soft_real (u : FVec Ideal S2 .f32) (a : Fin 2 → ℝ) (h : ∀ i : Fin 2, u (ix1 i) = ((a i : ℝ) : EReal)) (i : Fin 2) :
    ∃ r : ℝ, 0 ≤ r ∧ soft u (ix1 i) = (r : EReal) :=
  soft_real_of_max u (max (a 0) (a 1)) (by rw [h, h]; exact (EReal.coe_strictMono.monotone.map_max).symm) i

end Cert.KernelIdeal.Value

end
-- ==== Proof.Value.Reference.lean ====
module

public import proofs.«01_k».proof.Proof.Gen.ReferenceIdeal.Run
public import proofs.«01_k».proof.Proof.Value.Softmax
public import proofs.«01_k».proof.Proof.Value.Slice

@[expose] public section

set_option maxRecDepth 16384

noncomputable section

namespace Cert.ReferenceIdeal.Value

open Cert.ReferenceIdeal Cert.ReferenceIdeal.Gen Cert.White
open Idealize.ShloMosaic Idealize.ShloMosaic.TcCoe Idealize.ShloMosaic.Tactic Idealize.ShloMosaic.StableHlo
open Cert.KernelIdeal.Value (soft expo c_eps c_three_halves cmpi_eq_ofNat)

/-! # What the reference computes, group by group -/

/-- A channel, by its group and its place there. -/
abbrev chanG (g : Fin 128) (d : Fin 16) : Fin 2048 := ⟨g.val * 16 + d.val, by omega⟩

/-- The data of a group. -/
def dataOf (x : Fin 16384 → Fin 2048 → ℝ) (g : Fin 128) : Data := fun n d => x n (chanG g d)

/-- A stack of real matrices as an array. -/
def stack (A : Fin 128 → Small) : FVec Ideal S128x16x16 .f32 := fun y => ((A (y 0) (y 1) (y 2) : ℝ) : EReal)

/-- An entry of a stack. -/
theorem stack_at (A : Fin 128 → Small) (g : Fin 128) (i j : Fin 16) : stack A (ix3 g i j) = ((A g i j : ℝ) : EReal) := rfl

/-- Stacks with equal entries are equal. -/
theorem ext3 {S T : FVec Ideal S128x16x16 .f32} (h : ∀ (g : Fin 128) (i j : Fin 16), S (ix3 g i j) = T (ix3 g i j)) : S = T := by
  funext y
  have e : (ix3 (y 0) (y 1) (y 2) : S128x16x16.Idx) = y := funext fun a => by
    match a with
    | ⟨0, _⟩ => rfl
    | ⟨1, _⟩ => rfl
    | ⟨2, _⟩ => rfl
  rw [← e]
  exact h _ _ _

/-- The number of rows. -/
theorem c_rows : Ideal.ofBits .f32 0x46800000#32 = ((16384 : ℝ) : EReal) := by
  simp [Ideal.ofBits, Ideal.ieee, -EReal.coe_mul]; norm_num

/-- One half. -/
theorem c_half : Ideal.ofBits .f32 0x3F000000#32 = ((1 / 2 : ℝ) : EReal) := by
  simp [Ideal.ofBits, Ideal.ieee, -EReal.coe_mul]; norm_num

/-- Three halves. -/
theorem c_three_halves' : Ideal.ofBits .f32 0x3FC00000#32 = ((3 / 2 : ℝ) : EReal) := c_three_halves

/-- Division of real numbers. -/
theorem div_real (p : ℝ) {q : ℝ} (h : q ≠ 0) : Ideal.div ((p : ℝ) : EReal) ((q : ℝ) : EReal) = ((p / q : ℝ) : EReal) := by
  rw [Ideal.div_coe h, ← EReal.coe_mul, mul_one_div]

variable {V0 : Valuation τ sig (Elt Ideal)}

/-- The reference's softmax is the kernel's. -/
theorem mean_weights : res_main_v20 V0 = soft (V0 (Proc.devRef .tc main_arg1)) := rfl

/-- The arguments as numbers, as for the kernel. -/
structure Reals (V0 : Valuation τ sig (Elt Ideal)) (x : Fin 16384 → Fin 2048 → ℝ) (w : Fin 2048 → ℝ) (a b : ℝ) (v : EReal) : Prop where
  hx : ∀ n k, (V0 (Proc.devRef .tc main_arg0) : FVec Ideal S16384x2048 .f32) (ix2 n k) = ((x n k : ℝ) : EReal)
  hw : ∀ k, (V0 (Proc.devRef .tc main_arg3) : FVec Ideal S2048 .f32) (ix1 k) = ((w k : ℝ) : EReal)
  ha : 1 - soft (V0 (Proc.devRef .tc main_arg1)) (ix1 1) = ((a : ℝ) : EReal)
  hb : soft (V0 (Proc.devRef .tc main_arg1)) (ix1 0) = ((b : ℝ) : EReal)
  hv : soft (V0 (Proc.devRef .tc main_arg2)) (ix1 0) = v
  weight : Weight v

variable {x : Fin 16384 → Fin 2048 → ℝ} {w : Fin 2048 → ℝ} {a b : ℝ} {v : EReal}

/-- The data, rearranged by group. -/
theorem v1_at (H : Reals V0 x w a b v) (g : Fin 128) (d : Fin 16) (n : Fin 16384) :
    (res_main_v1 V0 : FVec Ideal S128x16x16384 .f32) (ix3 g d n) = ((dataOf x g n d : ℝ) : EReal) := by
  unfold dataOf
  rw [← H.hx]
  pointwise [res_main_v1]

/-- The means. -/
theorem v5_at (H : Reals V0 x w a b v) (g : Fin 128) (d : Fin 16) :
    (res_main_v5 V0 : FVec Ideal S128x16x1 .f32) (ix3 g d 0) = ((mean (dataOf x g) d : ℝ) : EReal) := by
  unfold mean
  rw [← div_real _ (by norm_num), coe_sum]
  simp only [← v1_at H]
  pointwise [res_main_v5]
  rw [c_rows]

/-- The centred data. -/
theorem v7_at (H : Reals V0 x w a b v) (g : Fin 128) (d : Fin 16) (n : Fin 16384) :
    (res_main_v7 V0 : FVec Ideal S128x16x16384 .f32) (ix3 g d n) = ((dataOf x g n d - mean (dataOf x g) d : ℝ) : EReal) := by
  rw [EReal.coe_sub, ← v1_at H, ← v5_at H]
  pointwise [res_main_v7]

/-- The comparison of two places of a group, as a truth value. -/
theorem same_place (i j : Fin 16) : IntOp.cmpi CmpIPredicate.eq (IntOp.addi (BitVec.ofNat 32 i.val) 0#32) (BitVec.ofNat 32 j.val)
    = if i = j then 1#1 else 0#1 := by
  have h : IntOp.addi (BitVec.ofNat 32 i.val) 0#32 = BitVec.ofNat 32 i.val := BitVec.add_zero _
  rw [h, cmpi_eq_ofNat _ _ (by omega) (by omega)]
  simp only [Fin.ext_iff]

/-- The unit matrix. -/
theorem v36_at (i j : Fin 16) : (res_main_v36 V0 : FVec Ideal S16x16 .f32) (ix2 i j) = (((1 : Small) i j : ℝ) : EReal) := by
  pointwise [res_main_v36]
  rw [same_place, Matrix.one_apply]
  split
  · show (((1#1 : BitVec 1).toNat : ℝ) : EReal) = _
    simp
  · show (((0#1 : BitVec 1).toNat : ℝ) : EReal) = _
    simp

/-- The unit matrix in every group. -/
theorem v52_eq : (res_main_v52 V0 : FVec Ideal S128x16x16 .f32) = stack fun _ => 1 := by
  apply ext3; intro g i j
  rw [stack_at, ← v36_at (V0 := V0)]
  pointwise [res_main_v52]

/-- The weighted covariances of all groups as an array. -/
def covs (v : EReal) (x : Fin 16384 → Fin 2048 → ℝ) : FVec Ideal S128x16x16 .f32 := fun y => cov v (dataOf x (y 0)) (y 1) (y 2)

/-- An entry of that array. -/
theorem covs_at (v : EReal) (x : Fin 16384 → Fin 2048 → ℝ) (g : Fin 128) (i j : Fin 16) : covs v x (ix3 g i j) = cov v (dataOf x g) i j := rfl

/-- The reference's weighted covariances. -/
theorem v45_eq (H : Reals V0 x w a b v) : (res_main_v45 V0 : FVec Ideal S128x16x16 .f32) = covs v x := by
  apply ext3; intro g i j
  rw [covs_at]
  unfold cov centred
  rw [Matrix.of_apply, EReal.coe_mul, ← div_real _ (by norm_num), coe_sum, ← v36_at (V0 := V0), ← H.hv]
  simp only [EReal.coe_mul, ← v7_at H]
  rw [← c_rows, ← c_eps]
  have e : Host.divf (res_main_v26 V0) (broadcastInDim S2 ![0] bcast_S1_S2_0 (broadcastInDim S1 ![] bcast_S_S1
      (Host.reduceAdd (res_main_v26 V0) (constant S_ .f32 0x00000000#32) reducesTo_S2_S_d0 h_S_))) = soft (V0 (Proc.devRef .tc main_arg2)) := rfl
  unfold res_main_v45
  rw [e]
  generalize soft _ = u
  pointwise

/-- One over a group's trace. -/
theorem v49_at (H : Reals V0 x w a b v) (g : Fin 128) :
    (res_main_v49 V0 : FVec Ideal S128x1x1 .f32) (ix3 g 0 0) = ((inv v (dataOf x g) : ℝ) : EReal) := by
  have hd : Ideal.div 1 (tr v (dataOf x g)) = ((inv v (dataOf x g) : ℝ) : EReal) := by
    rw [Ideal.div, if_neg (tr_ne H.weight _), one_mul, inv_coe H.weight]
  unfold res_main_v49
  rw [show (res_main_v45 V0 : FVec Ideal S128x16x16 .f32) = _ from v45_eq H, ← hd]
  pointwise [covs]
  unfold tr
  refine congrArg (Ideal.div 1) (Finset.sum_congr rfl fun i _ => ?_)
  rw [Finset.sum_eq_single i]
  · rw [same_place, if_pos rfl]; rfl
  · intro j _ hj
    rw [same_place, if_neg (Ne.symm hj)]; rfl
  · exact fun h => absurd (Finset.mem_univ _) h

/-- The covariances divided by their traces. -/
theorem v51_eq (H : Reals V0 x w a b v) : (res_main_v51 V0 : FVec Ideal S128x16x16 .f32) = stack fun g => normed v (dataOf x g) := by
  apply ext3; intro g i j
  rw [stack_at, ← normed_coe H.weight, ← v49_at H]
  unfold res_main_v51
  rw [show (res_main_v45 V0 : FVec Ideal S128x16x16 .f32) = _ from v45_eq H]
  pointwise [covs]

/-- One step as the reference computes it. -/
def refStep (n p : FVec Ideal S128x16x16 .f32) : FVec Ideal S128x16x16 .f32 :=
  subf (mulf (broadcastInDim S128x16x16 ![] bcast_S_S128x16x16 (constant S_ .f32 0x3FC00000#32)) p)
    (mulf (broadcastInDim S128x16x16 ![] bcast_S_S128x16x16 (constant S_ .f32 0x3F000000#32))
      (Host.dotGeneral dot_S128x16x16_S128x16x16_S128x16x16_2_1_1_2_0_0 none (Host.dotGeneral dot_S128x16x16_S128x16x16_S128x16x16_1_1_2_2_0_0 none
        (Host.dotGeneral dot_S128x16x16_S128x16x16_S128x16x16_1_2_2_1_0_0 none p p) p) n))

/-- A product of stacks, the result transposed. -/
theorem dot_1221 (A B : Fin 128 → Small) : (Host.dotGeneral dot_S128x16x16_S128x16x16_S128x16x16_1_2_2_1_0_0 none (stack A) (stack B) : FVec Ideal S128x16x16 .f32)
    = stack fun g => (B g * A g).transpose := by
  apply ext3; intro g i j
  rw [stack_at, Matrix.transpose_apply, Matrix.mul_apply, coe_sum]
  simp only [EReal.coe_mul]
  pointwise [stack]
  exact Finset.sum_congr rfl fun k _ => mul_comm _ _

/-- A product of stacks, the first factor transposed. -/
theorem dot_1122 (A B : Fin 128 → Small) : (Host.dotGeneral dot_S128x16x16_S128x16x16_S128x16x16_1_1_2_2_0_0 none (stack A) (stack B) : FVec Ideal S128x16x16 .f32)
    = stack fun g => (A g).transpose * B g := by
  apply ext3; intro g i j
  rw [stack_at, Matrix.mul_apply, coe_sum]
  simp only [EReal.coe_mul, Matrix.transpose_apply]
  pointwise [stack]

/-- A product of stacks. -/
theorem dot_2112 (A B : Fin 128 → Small) : (Host.dotGeneral dot_S128x16x16_S128x16x16_S128x16x16_2_1_1_2_0_0 none (stack A) (stack B) : FVec Ideal S128x16x16 .f32)
    = stack fun g => A g * B g := by
  apply ext3; intro g i j
  rw [stack_at, Matrix.mul_apply, coe_sum]
  simp only [EReal.coe_mul]
  pointwise [stack]

/-- The reference's step, group by group. -/
theorem refStep_eq (N P : Fin 128 → Small) : refStep (stack N) (stack P) = stack fun g => step (N g) (P g) := by
  unfold refStep
  rw [dot_1221, dot_1122, dot_2112]
  apply ext3; intro g i j
  rw [stack_at]
  unfold step
  rw [Matrix.sub_apply, Matrix.smul_apply, Matrix.smul_apply, smul_eq_mul, smul_eq_mul, EReal.coe_sub, EReal.coe_mul, EReal.coe_mul,
    ← c_half, ← c_three_halves', ← stack_at P, ← stack_at (fun g => P g * P g * P g * N g)]
  simp only [Matrix.transpose_transpose]
  generalize stack (fun g => P g * P g * P g * N g) = Q
  generalize stack P = R
  pointwise

/-- Five steps. -/
theorem whit_eq (H : Reals V0 x w a b v) : refStep (res_main_v51 V0) (res_main_v84 V0) = stack fun g => whit v (dataOf x g) := by
  have h0 : (res_main_v60 V0 : FVec Ideal S128x16x16 .f32) = refStep (res_main_v51 V0) (res_main_v52 V0) := rfl
  have h1 : (res_main_v68 V0 : FVec Ideal S128x16x16 .f32) = refStep (res_main_v51 V0) (res_main_v60 V0) := rfl
  have h2 : (res_main_v76 V0 : FVec Ideal S128x16x16 .f32) = refStep (res_main_v51 V0) (res_main_v68 V0) := rfl
  have h3 : (res_main_v84 V0 : FVec Ideal S128x16x16 .f32) = refStep (res_main_v51 V0) (res_main_v76 V0) := rfl
  have e : (res_main_v51 V0 : FVec Ideal S128x16x16 .f32) = _ := v51_eq H
  have e' : (res_main_v52 V0 : FVec Ideal S128x16x16 .f32) = _ := v52_eq
  rw [h3, h2, h1, h0, e, e', refStep_eq, refStep_eq, refStep_eq, refStep_eq, refStep_eq]
  rfl

/-- The reference's result, its last step under its name. -/
def refOut (V0 : Valuation τ sig (Elt Ideal)) : FVec Ideal S16384x2048 .f32 :=
  addf (mulf (shapeCast _ (transpose S16384x128x16 [1, 0, 2] (Host.dotGeneral dot_S16384x128x16_S128x16x16_S128x16384x16_2_2_0_1_1_0 none
    (subf (mulf (broadcastInDim S16384x128x16 ![] bcast_S_S16384x128x16 (subf (constant S_ .f32 0x3F800000#32) (shapeCast _
    (extractStridedSlice S1 ![1] (res_main_v20 V0) slices_S2_S1_1) shapeCasts_S1_S_))) (shapeCast _ (V0 (Proc.devRef .tc main_arg0))
    shapeCasts_S16384x2048_S16384x128x16)) (broadcastInDim S16384x128x16 ![0, 1, 2] bcast_S1x128x16_S16384x128x16_0_1_2 (mulf
    (broadcastInDim S1x128x16 ![] bcast_S_S1x128x16 (shapeCast _ (extractStridedSlice S1 ![0] (res_main_v20 V0) slices_S2_S1_0)
    shapeCasts_S1_S_)) (broadcastInDim S1x128x16 ![1, 2] bcast_S128x16_S1x128x16_1_2 (shapeCast _ (res_main_v5 V0)
    shapeCasts_S128x16x1_S128x16))))) (mulf (refStep (res_main_v51 V0) (res_main_v84 V0)) (broadcastInDim S128x16x16 ![0, 1, 2]
    bcast_S128x1x1_S128x16x16_0_1_2 (Host.sqrt (res_main_v49 V0))))) transposes_S128x16384x16_S16384x128x16_1_0_2)
    shapeCasts_S16384x128x16_S16384x2048) (broadcastInDim S16384x2048 ![0, 1] bcast_S1x2048_S16384x2048_0_1 (broadcastInDim S1x2048 ![1]
    bcast_S2048_S1x2048_1 (V0 (Proc.devRef .tc main_arg3))))) (broadcastInDim S16384x2048 ![0, 1] bcast_S1x2048_S16384x2048_0_1
    (broadcastInDim S1x2048 ![1] bcast_S2048_S1x2048_1 (V0 (Proc.devRef .tc main_arg4))))

/-- The group of a channel, -/
abbrev grpG (k : Fin 2048) : Fin 128 := ⟨k.val / 16, by omega⟩
/-- and its place there. -/
abbrev plcG (k : Fin 2048) : Fin 16 := ⟨k.val % 16, by omega⟩

/-- The reference's result at a row and a channel. -/
theorem refOut_at (H : Reals V0 x w a b v) (n : Fin 16384) (k : Fin 2048) :
    refOut V0 (ix2 n k) = ((rowOut a b v (dataOf x (grpG k)) n (plcG k) * w k : ℝ) : EReal)
      + (V0 (Proc.devRef .tc main_arg4) : FVec Ideal S2048 .f32) (ix1 k) := by
  have ha := H.ha
  have hb := H.hb
  unfold refOut
  rw [whit_eq H, mean_weights]
  generalize soft (V0 (Proc.devRef .tc main_arg1)) = u at ha hb ⊢
  pointwise [stack]
  refine congrArg (fun r : EReal => r + _) ?_
  rw [EReal.coe_mul, ← H.hw k]
  refine congrArg (fun r : EReal => r * _) ?_
  unfold rowOut
  rw [Finset.sum_mul, coe_sum]
  refine Finset.sum_congr rfl fun e _ => ?_
  have h0 : 0 ≤ inv v (dataOf x (grpG k)) := inv_nonneg H.weight _
  have hx := H.hx n (chanG (grpG k) e)
  rw [ha, hb, v5_at H, v49_at H, Ideal.sqrt_coe, if_neg (not_lt.2 h0), whit_symm]
  refine (congrArg (fun r : EReal => (((a : ℝ) : EReal) * r - _) * _) hx).trans ?_
  simp only [← EReal.coe_mul, ← EReal.coe_sub]
  refine congrArg (fun r : ℝ => (r : EReal)) ?_
  rw [mul_assoc]
  rfl

end Cert.ReferenceIdeal.Value

end
-- ==== Proof.Value.Finite.lean ====
module

public import proofs.«01_k».proof.Proof.Gen.Pre_finite
public import Idealize.ShloMosaic.PureOps.Ideal
public import Idealize.ShloMosaic.Lib.ReduceAll
public import Idealize.ShloMosaic.Lib.Affine

@[expose] public section

noncomputable section

namespace Cert.Pre_finite.Value

open Cert.Pre_finite
open Idealize.ShloMosaic

/-! # What the precondition says: three of the five arguments are real numbers -/

/-- Every entry is a real number. -/
def Finite {s : Shape} (X : FVec Ideal s .f32) : Prop := ∀ i, ∃ r : ℝ, X i = ((r : ℝ) : EReal)

/-- The pattern of all exponent bits is the upper infinity. -/
theorem c_top : Ideal.ofBits .f32 0x7F800000#32 = ⊤ := by simp [Ideal.ofBits, Ideal.ieee]

/-- A number whose absolute value is below the upper infinity is real. -/
theorem real_of_abs_lt {z : EReal} (h : Ideal.cmp .olt (max z (-z)) (Ideal.ofBits .f32 0x7F800000#32) = 1#1) :
    ∃ r : ℝ, z = ((r : ℝ) : EReal) := by
  rw [c_top] at h
  have h1 : max z (-z) < ⊤ := by
    by_contra hn
    simp [Ideal.cmp, hn] at h
  rw [max_lt_iff] at h1
  induction z with
  | bot => simp at h1
  | top => simp at h1
  | coe r => exact ⟨r, rfl⟩

/-- An array whose entries all pass the test is real. -/
theorem finite_of_reduce {s : Shape} {axes : List (Fin s.rank)} (X : FVec Ideal s .f32) (hb : S_.BroadcastsInDim s (![] : Fin 0 → Fin s.rank))
    (init : S_.Idx → BitVec 1) (h : s.ReducesTo axes S_) (hu : 0 < S_.numel) (j : S_.Idx)
    (e : Host.reduce IntOp.andi (cmpf .olt (Host.absf X) (broadcastInDim s ![] hb (constant S_ .f32 0x7F800000#32))) init h hu j = 1#1) :
    Finite X := by
  haveI : Subsingleton S_.Idx := ⟨fun _ _ => funext fun a => a.elim0⟩
  exact fun i => real_of_abs_lt (Host.reduce_andi_all _ init h hu j e i)

/-- The precondition: the data, the mean weights and the channels' weights are real. -/
theorem finite_of {X : FVec Ideal S16384x2048 .f32} {M V : FVec Ideal S2 .f32} {W B : FVec Ideal S2048 .f32}
    (h : fn (F := Ideal) X M V W B = fun _ => 1#1) : Finite X ∧ Finite M ∧ Finite W := by
  have e := congrFun h fun a => a.elim0
  dsimp only [fn] at e
  obtain ⟨e, hW⟩ := IntOp.andi_eq_one.1 e
  obtain ⟨hX, hM⟩ := IntOp.andi_eq_one.1 e
  exact ⟨finite_of_reduce _ _ _ _ _ _ hX, finite_of_reduce _ _ _ _ _ _ hM, finite_of_reduce _ _ _ _ _ _ hW⟩

end Cert.Pre_finite.Value

end
-- ==== Proof.Value.Equation.lean ====
module

public import proofs.«01_k».proof.Proof.Value.Output
public import proofs.«01_k».proof.Proof.Value.Reference
public import proofs.«01_k».proof.Proof.Value.Finite

@[expose] public section

set_option maxRecDepth 16384

noncomputable section

namespace Cert.Equation

open Cert.White
open Cert.KernelIdeal.Value (argX argW argB argM argV scal_0 scal_1 scal_2 soft soft_real soft_weight result valueAt sliceOf sliceW slc lane chan_slc)
open Cert.ReferenceIdeal.Value (refOut refOut_at dataOf grpG plcG)
open Idealize.ShloMosaic Idealize.ShloMosaic.TcCoe

/-! # The two results are equal -/

/-- A channel's group, found inside its slice, is its group among all channels. -/
theorem group_slice (x : Fin 16384 → Fin 2048 → ℝ) (k : Fin 2048) : group (sliceOf x (slc k)) (grp (lane k)) = dataOf x (grpG k) := by
  funext n d
  refine congrArg (x n) (Fin.ext ?_)
  show k.val / 256 * 256 + (16 * (k.val % 256 / 16) + d.val) = k.val / 16 * 16 + d.val
  omega

/-- Its place there too. -/
theorem place_slice (k : Fin 2048) : plc (lane k) = plcG k := Fin.ext (by show k.val % 256 % 16 = k.val % 16; omega)

/-- The kernel's value at a row and a channel, its channel named among all. -/
theorem value_eq (x : Fin 16384 → Fin 2048 → ℝ) (w : Fin 2048 → ℝ) (a b : ℝ) (v : EReal) (n : Fin 16384) (k : Fin 2048) :
    valueAt x w a b v n (slc k) (lane k) = rowOut a b v (dataOf x (grpG k)) n (plcG k) * w k := by
  unfold valueAt sliceW
  rw [group_slice, place_slice, chan_slc]

variable {m : (ℓ : Loc Cert.KernelIdeal.nD Cert.KernelIdeal.τ Cert.KernelIdeal.sig) → Buf (Elt Ideal) ℓ} {c : Dev Cert.KernelIdeal.nD}
variable {V0 : Valuation Cert.ReferenceIdeal.τ Cert.ReferenceIdeal.sig (Elt Ideal)}
variable {x : Fin 16384 → Fin 2048 → ℝ} {w : Fin 2048 → ℝ} {a b : ℝ} {v : EReal}

/-- The kernel's array is the reference's, when both are made of the same real numbers and the same biases. -/
theorem result_eq (H : Cert.ReferenceIdeal.Value.Reals V0 x w a b v) :
    result x w a b v (V0 (Proc.devRef .tc Cert.ReferenceIdeal.main_arg4)) = refOut V0 := by
  funext y
  have hy : (y : Cert.ReferenceIdeal.S16384x2048.Idx) = ix2 (y 0) (y 1) := funext fun a => by
    match a with
    | ⟨0, _⟩ => rfl
    | ⟨1, _⟩ => rfl
  refine Eq.trans ?_ ((congrArg (refOut V0) hy).trans (refOut_at H (y 0) (y 1))).symm
  exact congrArg (fun r : ℝ => (r : EReal) + _) (value_eq x w a b v (y 0) (y 1))

/-- Finite arguments are the same numbers for both programs. -/
theorem reals (hX : Cert.Pre_finite.Value.Finite (argX m c)) (hM : Cert.Pre_finite.Value.Finite (argM m c))
    (hW : Cert.Pre_finite.Value.Finite (argW m c))
    (e0 : V0 (Proc.devRef .tc Cert.ReferenceIdeal.main_arg0) = argX m c) (e1 : V0 (Proc.devRef .tc Cert.ReferenceIdeal.main_arg1) = argM m c)
    (e2 : V0 (Proc.devRef .tc Cert.ReferenceIdeal.main_arg2) = argV m c) (e3 : V0 (Proc.devRef .tc Cert.ReferenceIdeal.main_arg3) = argW m c) :
    ∃ x w a b v, Cert.KernelIdeal.Value.Reals m c x w a b v ∧ Cert.ReferenceIdeal.Value.Reals V0 x w a b v := by
  choose x hx using fun (n : Fin 16384) (k : Fin 2048) => hX (ix2 n k)
  choose w hw using fun k : Fin 2048 => hW (ix1 k)
  choose p hp using fun i : Fin 2 => hM (ix1 i)
  obtain ⟨s, -, hs⟩ := soft_real (argM m c) p hp 1
  obtain ⟨b, -, hb⟩ := soft_real (argM m c) p hp 0
  have ha : (1 : EReal) - soft (argM m c) (ix1 1) = ((1 - s : ℝ) : EReal) := by rw [hs, EReal.coe_sub, EReal.coe_one]
  refine ⟨x, w, 1 - s, b, soft (argV m c) (ix1 0), ⟨hx, hw, (scal_0 m c).trans ha, (scal_1 m c).trans hb, scal_2 m c, soft_weight _ 0⟩, ?_⟩
  refine ⟨fun n k => (congrFun e0 _).trans (hx n k), fun k => (congrFun e3 _).trans (hw k), ?_, ?_, ?_, soft_weight _ 0⟩
  · rw [e1]; exact ha
  · rw [e1]; exact hb
  · rw [e2]

/-- The array the kernel leaves is the one the reference computes. -/
theorem equation (hX : Cert.Pre_finite.Value.Finite (argX m c)) (hM : Cert.Pre_finite.Value.Finite (argM m c))
    (hW : Cert.Pre_finite.Value.Finite (argW m c))
    (e0 : V0 (Proc.devRef .tc Cert.ReferenceIdeal.main_arg0) = argX m c) (e1 : V0 (Proc.devRef .tc Cert.ReferenceIdeal.main_arg1) = argM m c)
    (e2 : V0 (Proc.devRef .tc Cert.ReferenceIdeal.main_arg2) = argV m c) (e3 : V0 (Proc.devRef .tc Cert.ReferenceIdeal.main_arg3) = argW m c)
    (e4 : V0 (Proc.devRef .tc Cert.ReferenceIdeal.main_arg4) = argB m c) :
    (Cert.KernelIdeal.Sweep.dats m 0 c).arrAt 4 (Cert.KernelIdeal.cfgs 0).N = refOut V0 := by
  obtain ⟨x, w, a, b, v, H, H'⟩ := reals hX hM hW e0 e1 e2 e3
  rw [Cert.KernelIdeal.Value.final H, ← result_eq H', e4]

end Cert.Equation

end
-- ==== Proof.lean ====
/-
  The proof of `Cert.Claim`: the kernel and its idealization run, leave their arguments as they were and every counter at
  zero; so does the reference; the idealization changes no operation; and on finite data the array the kernel leaves is the
  reference's. Each part is proved in a module of its own under proof/Proof/; this file puts them together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Sweep.Run
public import proofs.«01_k».proof.Proof.Sweep.SameProgram
public import proofs.«01_k».proof.Proof.Value.Equation
public import Idealize.ShloMosaic.Lib.Quiescent

@[expose] public section

noncomputable section

namespace Cert.Proof

open Idealize.ShloMosaic Idealize.ShloMosaic.TcCoe Idealize.ShloMosaic.StableHlo Idealize.SL.Sem

/-- The kernel over the extended reals leaves in its result what the sweep stored there, and its arguments as they were. -/
theorem kernel_run (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩ (fun r =>
      ∀ c : Dev Cert.KernelIdeal.nD,
      r.2.mem ((c.tc : Thread Cert.KernelIdeal.nD Cert.KernelIdeal.τ).loc Cert.KernelIdeal.main_v33)
          = (Cert.KernelIdeal.Sweep.dats m 0 c).arrAt 4 (Cert.KernelIdeal.cfgs 0).N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c => ⟨(h.1 c).1 4, h.2.1 c⟩)
    (θ_run_and (Cert.KernelIdeal.Sweep.run_main m ρ) (Cert.KernelIdeal.Sweep.frame m ρ))

/-- The reference runs, leaves its arguments as they were, and has no counter that could move. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- On finite data the kernel's result is the reference's. -/
theorem algebraic : Cert.algebraic_KernelIdeal_ReferenceIdeal_pre_finite := by
  intro m ρ m' ρ' hpre hagree
  refine ⟨fun c => (Cert.KernelIdeal.Sweep.dats m 0 c).arrAt 4 (Cert.KernelIdeal.cfgs 0).N, kernel_run m ρ, ?_⟩
  refine (θ_run Cert.ReferenceIdeal.defs _ _).mono (fun r h c => ⟨(h c).1.trans ?_, (h c).2⟩) (Cert.ReferenceIdeal.Value.run (F := Ideal) m' ρ')
  obtain ⟨hX, hM, hW⟩ := Cert.Pre_finite.Value.finite_of (hpre c)
  obtain ⟨e0, e1, e2, e3, e4⟩ := hagree c
  exact (Cert.Equation.equation (V0 := launchContents m' c) hX hM hW e0 e1 e2 e3 e4).symm

/-- All the claims together. -/
theorem claim : Cert.Claim := ⟨Cert.Kernel.Gen.facts, Cert.KernelIdeal.Gen.facts, Cert.ReferenceIdeal.Gen.facts, Cert.Pre_finite.Gen.facts,
  fun m ρ _ => Cert.Kernel.Sweep.frame m ρ, fun m ρ _ => Cert.KernelIdeal.Sweep.frame m ρ, fun m ρ _ => Cert.KernelIdeal.Sweep.frame m ρ,
  fun m ρ _ => reference_frame m ρ, fun m ρ _ => reference_frame m ρ, trivial, algebraic⟩

end Cert.Proof

end
